-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v4_0)) (v1 : (c : Dev Cert.InprojIdeal.nD) → Buf (Elt Ideal) ((c.tc : Thread Cert.InprojIdeal.nD Cert.InprojIdeal.τ).loc Cert.InprojIdeal.main_v4_1)) (v2 : (c : Dev Cert.InprojIdeal.nD) → Buf (Elt Ideal) ((c.tc : Thread Cert.InprojIdeal.nD Cert.InprojIdeal.τ).loc Cert.InprojIdeal.main_v4_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4_0) = v0 c
          ∧ r.2.mem ((c.tc : Thread Cert.InprojIdeal.nD Cert.InprojIdeal.τ).loc Cert.InprojIdeal.main_v4_1) = v1 c
          ∧ r.2.mem ((c.tc : Thread Cert.InprojIdeal.nD Cert.InprojIdeal.τ).loc Cert.InprojIdeal.main_v4_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v6) = v0 c
          ∧ r.2.mem ((c.tc : Thread Cert.InprojRefIdeal.nD Cert.InprojRefIdeal.τ).loc Cert.InprojRefIdeal.main_v8) = v1 c
          ∧ r.2.mem ((c.tc : Thread Cert.InprojRefIdeal.nD Cert.InprojRefIdeal.τ).loc Cert.InprojRefIdeal.main_v10) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  IdealRules.named_const.Statement Cert.MergeIdeal.κ "neg_log2e" .f32 0xBFB8AA3B#32 ((-((Real.log 2)⁻¹) : ℝ) : EReal)

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v3_0)) (v1 : (c : Dev Cert.OprojIdeal.nD) → Buf (Elt Ideal) ((c.tc : Thread Cert.OprojIdeal.nD Cert.OprojIdeal.τ).loc Cert.OprojIdeal.main_v3_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v3_0) = v0 c
          ∧ r.2.mem ((c.tc : Thread Cert.OprojIdeal.nD Cert.OprojIdeal.τ).loc Cert.OprojIdeal.main_v3_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v4) = v0 c
          ∧ r.2.mem ((c.tc : Thread Cert.OprojRefIdeal.nD Cert.OprojRefIdeal.τ).loc Cert.OprojRefIdeal.main_v19) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3))

def preserves_FfnUp_FfnUpIdeal : Prop :=
  IdealRules.named_const.Statement Cert.FfnUpIdeal.κ "neg_log2e" .f32 0xBFB8AA3B#32 ((-((Real.log 2)⁻¹) : ℝ) : EReal)

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_Ple_PleIdeal : Prop :=
  IdealRules.named_const.Statement Cert.PleIdeal.κ "neg_log2e" .f32 0xBFB8AA3B#32 ((-((Real.log 2)⁻¹) : ℝ) : EReal)

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v6) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v40) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Attn_AttnIdeal : Prop :=
  IdealRules.named_const.Statement Cert.AttnIdeal.κ "mask" .f32 0xF149F2CA#32 ⊥

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v23_0)) (v1 : (c : Dev Cert.PrepIdeal.nD) → Buf (Elt Ideal) ((c.tc : Thread Cert.PrepIdeal.nD Cert.PrepIdeal.τ).loc Cert.PrepIdeal.main_v23_1)) (v2 : (c : Dev Cert.PrepIdeal.nD) → Buf (Elt Ideal) ((c.tc : Thread Cert.PrepIdeal.nD Cert.PrepIdeal.τ).loc Cert.PrepIdeal.main_v23_2)) (v3 : (c : Dev Cert.PrepIdeal.nD) → Buf (Elt Ideal) ((c.tc : Thread Cert.PrepIdeal.nD Cert.PrepIdeal.τ).loc Cert.PrepIdeal.main_v23_3)) (v4 : (c : Dev Cert.PrepIdeal.nD) → Buf (Elt Ideal) ((c.tc : Thread Cert.PrepIdeal.nD Cert.PrepIdeal.τ).loc Cert.PrepIdeal.main_v23_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v23_0) = v0 c
          ∧ r.2.mem ((c.tc : Thread Cert.PrepIdeal.nD Cert.PrepIdeal.τ).loc Cert.PrepIdeal.main_v23_1) = v1 c
          ∧ r.2.mem ((c.tc : Thread Cert.PrepIdeal.nD Cert.PrepIdeal.τ).loc Cert.PrepIdeal.main_v23_2) = v2 c
          ∧ r.2.mem ((c.tc : Thread Cert.PrepIdeal.nD Cert.PrepIdeal.τ).loc Cert.PrepIdeal.main_v23_3) = v3 c
          ∧ r.2.mem ((c.tc : Thread Cert.PrepIdeal.nD Cert.PrepIdeal.τ).loc Cert.PrepIdeal.main_v23_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v15) = v0 c
          ∧ r.2.mem ((c.tc : Thread Cert.PrepRefIdeal.nD Cert.PrepRefIdeal.τ).loc Cert.PrepRefIdeal.main_v36) = v1 c
          ∧ r.2.mem ((c.tc : Thread Cert.PrepRefIdeal.nD Cert.PrepRefIdeal.τ).loc Cert.PrepRefIdeal.main_v39) = v2 c
          ∧ r.2.mem ((c.tc : Thread Cert.PrepRefIdeal.nD Cert.PrepRefIdeal.τ).loc Cert.PrepRefIdeal.main_v40) = v3 c
          ∧ r.2.mem ((c.tc : Thread Cert.PrepRefIdeal.nD Cert.PrepRefIdeal.τ).loc Cert.PrepRefIdeal.main_v47) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def Claim : Prop :=
  ∃ (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hOproj : Cert.Oproj.Facts) (hOprojIdeal : Cert.OprojIdeal.Facts) (hOprojRefIdeal : Cert.OprojRefIdeal.Facts) (hFfnUp : Cert.FfnUp.Facts) (hFfnUpIdeal : Cert.FfnUpIdeal.Facts) (hFfnUpRefIdeal : Cert.FfnUpRefIdeal.Facts) (hPle : Cert.Ple.Facts) (hPleIdeal : Cert.PleIdeal.Facts) (hPleRefIdeal : Cert.PleRefIdeal.Facts) (hAttn : Cert.Attn.Facts) (hAttnIdeal : Cert.AttnIdeal.Facts) (hFfnDown : Cert.FfnDown.Facts) (hFfnDownIdeal : Cert.FfnDownIdeal.Facts) (hFfnDownRefIdeal : Cert.FfnDownRefIdeal.Facts) (hPrep : Cert.Prep.Facts) (hPrepIdeal : Cert.PrepIdeal.Facts) (hPrepRefIdeal : Cert.PrepRefIdeal.Facts),
    quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Oproj (hOproj := hOproj)
    ∧ quiescent_OprojIdeal (hOprojIdeal := hOprojIdeal)
    ∧ quiescent_OprojRefIdeal (hOprojRefIdeal := hOprojRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Ple (hPle := hPle)
    ∧ quiescent_PleIdeal (hPleIdeal := hPleIdeal)
    ∧ quiescent_PleRefIdeal (hPleRefIdeal := hPleRefIdeal)
    ∧ quiescent_Attn (hAttn := hAttn)
    ∧ quiescent_AttnIdeal (hAttnIdeal := hAttnIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Prep (hPrep := hPrep)
    ∧ quiescent_PrepIdeal (hPrepIdeal := hPrepIdeal)
    ∧ quiescent_PrepRefIdeal (hPrepRefIdeal := hPrepRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Oproj_OprojIdeal
    ∧ algebraic_OprojIdeal_OprojRefIdeal (hOprojIdeal := hOprojIdeal) (hOprojRefIdeal := hOprojRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Ple_PleIdeal
    ∧ algebraic_PleIdeal_PleRefIdeal (hPleIdeal := hPleIdeal) (hPleRefIdeal := hPleRefIdeal)
    ∧ preserves_Attn_AttnIdeal
    ∧ preserves_FfnDown_FfnDownIdeal
    ∧ algebraic_FfnDownIdeal_FfnDownRefIdeal (hFfnDownIdeal := hFfnDownIdeal) (hFfnDownRefIdeal := hFfnDownRefIdeal)
    ∧ preserves_Prep_PrepIdeal
    ∧ algebraic_PrepIdeal_PrepRefIdeal (hPrepIdeal := hPrepIdeal) (hPrepRefIdeal := hPrepRefIdeal)
-- ==== Inproj.lean ====
abbrev S8192x2048 : Shape := ⟨2, ![8192, 2048]⟩
abbrev S1x2048x10784 : Shape := ⟨3, ![1, 2048, 10784]⟩
abbrev S1x2048x2048 : Shape := ⟨3, ![1, 2048, 2048]⟩
abbrev S2048x10784 : Shape := ⟨2, ![2048, 10784]⟩
abbrev S10784x2048 : Shape := ⟨2, ![10784, 2048]⟩
abbrev S2048x2048 : Shape := ⟨2, ![2048, 2048]⟩
abbrev S8192x9216 : Shape := ⟨2, ![8192, 9216]⟩
abbrev S1024x2048 : Shape := ⟨2, ![1024, 2048]⟩
abbrev S64x2048 : Shape := ⟨2, ![64, 2048]⟩
abbrev S2048x1024 : Shape := ⟨2, ![2048, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S1x2048x10784, .f32⟩
  | .hbm, ⟨2, _⟩ => ⟨S1x2048x2048, .f32⟩
  | .hbm, ⟨3, _⟩ => ⟨S1x2048x2048, .f32⟩
  | .hbm, ⟨4, _⟩ => ⟨S2048x10784, .f32⟩
  | .hbm, ⟨5, _⟩ => ⟨S10784x2048, .f32⟩
  | .hbm, ⟨6, _⟩ => ⟨S2048x2048, .f32⟩
  | .hbm, ⟨7, _⟩ => ⟨S2048x2048, .f32⟩
  | .hbm, ⟨8, _⟩ => ⟨S8192x9216, .bf16⟩
  | .hbm, ⟨9, _⟩ => ⟨S2048x2048, .bf16⟩
  | .hbm, ⟨10, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S2048x1024, .bf16⟩
  | .local _ .vmem, ⟨9, _⟩ => ⟨S2048x1024, .bf16⟩
  | .local _ .vmem, ⟨10, _⟩ => ⟨S64x2048, .bf16⟩
  | .local _ .vmem, ⟨11, _⟩ => ⟨S64x2048, .bf16⟩
  | .local _ .vmem, ⟨12, _⟩ => ⟨S64x2048, .bf16⟩
  | .local _ .vmem, ⟨13, _⟩ => ⟨S64x2048, .bf16⟩
  | .local _ .vmem, ⟨14, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![9, 4], ![false, false]⟩

def k0_mult1 (i : grid0.Coords) : BitVec 32 :=
  let arg0 : BitVec 32 := BitVec.ofNat 32 (i 0).val
  let c5_i32_1 : BitVec 32 := 5#32
  let v6 : BitVec 1 := Scalar.cmpi .sge arg0 c5_i32_1
  let c6688_i32 : BitVec 32 := 6688#32
  let c5_i32 : BitVec 32 := 5#32
  let v3 : BitVec 32 := Scalar.subi arg0 c5_i32
  let c1024_i32_0 : BitVec 32 := 1024#32
  let v4 : BitVec 32 := Scalar.muli v3 c1024_i32_0
  let v5 : BitVec 32 := Scalar.addi c6688_i32 v4
  let c1536_i32 : BitVec 32 := 1536#32
  let c0_i32 : BitVec 32 := 0#32
  let v0 : BitVec 32 := Scalar.subi arg0 c0_i32
  let c1024_i32 : BitVec 32 := 1024#32
  let v1 : BitVec 32 := Scalar.muli v0 c1024_i32
  let v2 : BitVec 32 := Scalar.addi c1536_i32 v1
  let v7 : BitVec 32 := Scalar.select v6 v5 v2
  v7
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1024_i32 : BitVec 32 := 1024#32
  let v1 : BitVec 32 := Scalar.muli v0 c1024_i32
  let c1536_i32 : BitVec 32 := 1536#32
  let v2 : BitVec 32 := Scalar.addi c1536_i32 v1
  let c5_i32 : BitVec 32 := 5#32
  let v3 : BitVec 32 := Scalar.subi arg0 c5_i32
  let c1024_i32_0 : BitVec 32 := 1024#32
  let v4 : BitVec 32 := Scalar.muli v3 c1024_i32_0
  let c6688_i32 : BitVec 32 := 6688#32
  let v5 : BitVec 32 := Scalar.addi c6688_i32 v4
  let c5_i32_1 : BitVec 32 := 5#32
  let v6 : BitVec 1 := Scalar.cmpi .sge arg0 c5_i32_1
  let v7 : BitVec 32 := Scalar.select v6 v5 v2
  let v8 : BitVec 32 := v7
  let c0_i32_2 : BitVec 32 := 0#32
  let c0_i32_3 : BitVec 32 := 0#32
  ![v8.toNat, c0_i32_2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InprojRefIdeal.lean ====
abbrev S8192x2048 : Shape := ⟨2, ![8192, 2048]⟩
abbrev S1x2048x10784 : Shape := ⟨3, ![1, 2048, 10784]⟩
abbrev S1x2048x2048 : Shape := ⟨3, ![1, 2048, 2048]⟩
abbrev S2048x10784 : Shape := ⟨2, ![2048, 10784]⟩
abbrev S8192x10784 : Shape := ⟨2, ![8192, 10784]⟩
abbrev S8192x5120 : Shape := ⟨2, ![8192, 5120]⟩
abbrev S8192x4096 : Shape := ⟨2, ![8192, 4096]⟩
abbrev S8192x9216 : Shape := ⟨2, ![8192, 9216]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10784, .f32⟩
  | .hbm, ⟨2, _⟩ => ⟨S1x2048x2048, .f32⟩
  | .hbm, ⟨3, _⟩ => ⟨S1x2048x2048, .f32⟩
  | .hbm, ⟨4, _⟩ => ⟨S8192x2048, .f32⟩
  | .hbm, ⟨5, _⟩ => ⟨S2048x10784, .f32⟩
  | .hbm, ⟨6, _⟩ => ⟨S8192x10784, .f32⟩
  | .hbm, ⟨7, _⟩ => ⟨S8192x5120, .f32⟩
  | .hbm, ⟨8, _⟩ => ⟨S8192x4096, .f32⟩
  | .hbm, ⟨9, _⟩ => ⟨S8192x9216, .f32⟩
  | .hbm, ⟨10, _⟩ => ⟨S8192x9216, .bf16⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S8192x9216 : Shape := ⟨2, ![8192, 9216]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S512x1024 : Shape := ⟨2, ![512, 1024]⟩
abbrev S512x2048 : Shape := ⟨2, ![512, 2048]⟩
abbrev S1024x1024 : Shape := ⟨2, ![1024, 1024]⟩
abbrev S2048x1024 : Shape := ⟨2, ![2048, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x9216, .bf16⟩
  | .hbm, ⟨3, _⟩ => ⟨S1x1024x2048, .f32⟩
  | .hbm, ⟨4, _⟩ => ⟨S1x2048x2048, .f32⟩
  | .hbm, ⟨5, _⟩ => ⟨S1024x2048, .f32⟩
  | .hbm, ⟨6, _⟩ => ⟨S2048x2048, .f32⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S2048x1024, .f32⟩
  | .local _ .vmem, ⟨11, _⟩ => ⟨S2048x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeIdeal.lean ====
variable {F : FTy → Type} [FloatOps F] [Named F]
def κ : String → Option EReal := fun
  | "neg_log2e" => some ((-((Real.log 2)⁻¹) : ℝ) : EReal)
  | _ => none
-- ==== MergeRefIdeal.lean ====
abbrev S8192x1024 : Shape := ⟨2, ![8192, 1024]⟩
abbrev S8192x2048 : Shape := ⟨2, ![8192, 2048]⟩
abbrev S8192x9216 : Shape := ⟨2, ![8192, 9216]⟩
abbrev S1x1024x2048 : Shape := ⟨3, ![1, 1024, 2048]⟩
abbrev S1x2048x2048 : Shape := ⟨3, ![1, 2048, 2048]⟩
abbrev S8192x2x4x2x64 : Shape := ⟨5, ![8192, 2, 4, 2, 64]⟩
abbrev S8192x2x2x4x64 : Shape := ⟨5, ![8192, 2, 2, 4, 64]⟩
abbrev S1024x2048 : Shape := ⟨2, ![1024, 2048]⟩
abbrev S2048x2048 : Shape := ⟨2, ![2048, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x9216, .bf16⟩
  | .hbm, ⟨3, _⟩ => ⟨S1x1024x2048, .f32⟩
  | .hbm, ⟨4, _⟩ => ⟨S1x2048x2048, .f32⟩
  | .hbm, ⟨5, _⟩ => ⟨S8192x1024, .f32⟩
  | .hbm, ⟨6, _⟩ => ⟨S8192x2x4x2x64, .f32⟩
  | .hbm, ⟨7, _⟩ => ⟨S8192x2x2x4x64, .f32⟩
  | .hbm, ⟨8, _⟩ => ⟨S8192x1024, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S1024x2048, .f32⟩
  | .hbm, ⟨14, _⟩ => ⟨S8192x2048, .f32⟩
  | .hbm, ⟨15, _⟩ => ⟨S8192x2048, .f32⟩
  | .hbm, ⟨16, _⟩ => ⟨S2048x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Oproj.lean ====
abbrev S8192x2048 : Shape := ⟨2, ![8192, 2048]⟩
abbrev S4x2048x2048 : Shape := ⟨3, ![4, 2048, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OprojRefIdeal.lean ====
abbrev S8192x2048 : Shape := ⟨2, ![8192, 2048]⟩
abbrev S4x2048x2048 : Shape := ⟨3, ![4, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnUp.lean ====
abbrev S8192x2048 : Shape := ⟨2, ![8192, 2048]⟩
abbrev S1x2048x5632 : Shape := ⟨3, ![1, 2048, 5632]⟩
abbrev S2048x5632 : Shape := ⟨2, ![2048, 5632]⟩
abbrev S8192x5632 : Shape := ⟨2, ![8192, 5632]⟩
abbrev S2048x2048 : Shape := ⟨2, ![2048, 2048]⟩
abbrev S2048x512 : Shape := ⟨2, ![2048, 512]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S2048x5632, .f32⟩
  | .hbm, ⟨4, _⟩ => ⟨S2048x5632, .f32⟩
  | .hbm, ⟨5, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpIdeal.lean ====
variable {F : FTy → Type} [FloatOps F] [Named F]
def κ : String → Option EReal := fun
  | "neg_log2e" => some ((-((Real.log 2)⁻¹) : ℝ) : EReal)
  | _ => none
-- ==== FfnUpRefIdeal.lean ====
abbrev S8192x2048 : Shape := ⟨2, ![8192, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S2048x5632, .f32⟩
  | .hbm, ⟨16, _⟩ => ⟨S8192x5632, .f32⟩
  | .hbm, ⟨17, _⟩ => ⟨S8192x5632, .f32⟩
  | .hbm, ⟨18, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Ple.lean ====
abbrev S8192x2048 : Shape := ⟨2, ![8192, 2048]⟩
abbrev S1x4x2048x256 : Shape := ⟨4, ![1, 4, 2048, 256]⟩
abbrev S1x2048 : Shape := ⟨2, ![1, 2048]⟩
abbrev S2048 : Shape := ⟨1, ![2048]⟩
abbrev S2048x2048 : Shape := ⟨2, ![2048, 2048]⟩
abbrev S1x256x2048 : Shape := ⟨3, ![1, 256, 2048]⟩
abbrev S4x2048x256 : Shape := ⟨3, ![4, 2048, 256]⟩
abbrev S8192x256 : Shape := ⟨2, ![8192, 256]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x4x2048x256, .f32⟩
  | .hbm, ⟨2, _⟩ => ⟨S1x2048, .f32⟩
  | .hbm, ⟨3, _⟩ => ⟨S2048, .f32⟩
  | .hbm, ⟨4, _⟩ => ⟨S2048x2048, .bf16⟩
  | .hbm, ⟨5, _⟩ => ⟨S1x256x2048, .f32⟩
  | .hbm, ⟨6, _⟩ => ⟨S4x2048x256, .f32⟩
  | .hbm, ⟨7, _⟩ => ⟨S8192x256, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S256x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S256x2048, .f32⟩
  | .local _ .vmem, ⟨8, _⟩ => ⟨S512x2048, .f32⟩
  | .local _ .vmem, ⟨9, _⟩ => ⟨S512x2048, .f32⟩
  | .local _ .vmem, ⟨10, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleIdeal.lean ====
variable {F : FTy → Type} [FloatOps F] [Named F]
def κ : String → Option EReal := fun
  | "neg_log2e" => some ((-((Real.log 2)⁻¹) : ℝ) : EReal)
  | _ => none
-- ==== PleRefIdeal.lean ====
abbrev S8192x2048 : Shape := ⟨2, ![8192, 2048]⟩
abbrev S1x4x2048x256 : Shape := ⟨4, ![1, 4, 2048, 256]⟩
abbrev S1x2048 : Shape := ⟨2, ![1, 2048]⟩
abbrev S2048 : Shape := ⟨1, ![2048]⟩
abbrev S2048x2048 : Shape := ⟨2, ![2048, 2048]⟩
abbrev S1x256x2048 : Shape := ⟨3, ![1, 256, 2048]⟩
abbrev S_ : Shape := ⟨0, ![]⟩
abbrev S8192 : Shape := ⟨1, ![8192]⟩
abbrev S8192x1 : Shape := ⟨2, ![8192, 1]⟩
abbrev S4x2048x256 : Shape := ⟨3, ![4, 2048, 256]⟩
abbrev S8192x256 : Shape := ⟨2, ![8192, 256]⟩
abbrev S256x2048 : Shape := ⟨2, ![256, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x4x2048x256, .f32⟩
  | .hbm, ⟨2, _⟩ => ⟨S1x2048, .f32⟩
  | .hbm, ⟨3, _⟩ => ⟨S2048, .f32⟩
  | .hbm, ⟨4, _⟩ => ⟨S2048x2048, .bf16⟩
  | .hbm, ⟨5, _⟩ => ⟨S1x256x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S4x2048x256, .f32⟩
  | .hbm, ⟨34, _⟩ => ⟨S8192x256, .f32⟩
  | .hbm, ⟨35, _⟩ => ⟨S256x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Attn.lean ====
abbrev S8192x1536 : Shape := ⟨2, ![8192, 1536]⟩
abbrev S8192x128 : Shape := ⟨2, ![8192, 128]⟩
abbrev S1x16 : Shape := ⟨2, ![1, 16]⟩
abbrev S16 : Shape := ⟨1, ![16]⟩
abbrev S8192x1024 : Shape := ⟨2, ![8192, 1024]⟩
abbrev S256x1024 : Shape := ⟨2, ![256, 1024]⟩
abbrev S256x256 : Shape := ⟨2, ![256, 256]⟩
abbrev S128x256 : Shape := ⟨2, ![128, 256]⟩
abbrev S256x128 : Shape := ⟨2, ![256, 128]⟩
abbrev S128x128 : Shape := ⟨2, ![128, 128]⟩
abbrev S1x1 : Shape := ⟨2, ![1, 1]⟩
abbrev S1024x128 : Shape := ⟨2, ![1024, 128]⟩
abbrev S1024x256 : Shape := ⟨2, ![1024, 256]⟩
abbrev S4096x256 : Shape := ⟨2, ![4096, 256]⟩
abbrev S4096x128 : Shape := ⟨2, ![4096, 128]⟩
abbrev S4096 : Shape := ⟨1, ![4096]⟩
abbrev S4096x1 : Shape := ⟨2, ![4096, 1]⟩

abbrev nBuf : Space → Nat
  | .hbm => 7
  | .vmem => 20
  | .smem => 1
  | _ => 0

abbrev bufTy : (tb : Table) → Fin (tcTables nBuf tb) → BufTy
  | .hbm, ⟨0, _⟩ => ⟨S8192x1536, .bf16⟩
  | .hbm, ⟨1, _⟩ => ⟨S8192x128, .f32⟩
  | .hbm, ⟨2, _⟩ => ⟨S8192x128, .f32⟩
  | .hbm, ⟨3, _⟩ => ⟨S1x16, .f32⟩
  | .hbm, ⟨4, _⟩ => ⟨S16, .f32⟩
  | .hbm, ⟨5, _⟩ => ⟨S1x16, .f32⟩
  | .hbm, ⟨6, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S256x1024, .bf16⟩
  | .local _ .vmem, ⟨19, _⟩ => ⟨S256x1024, .bf16⟩
  | .local _ .smem, ⟨0, _⟩ => ⟨S1x16, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let c0_i32_0 : BitVec 32 := 0#32
  ![v4.toNat, c4_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let c1_i32 : BitVec 32 := 1#32
  let v3 : BitVec 32 := Scalar.subi v2 c1_i32
  let c0_i32 : BitVec 32 := 0#32
  let v4 : BitVec 32 := Scalar.maxsi v3 c0_i32
  let c5_i32 : BitVec 32 := 5#32
  let c0_i32_0 : BitVec 32 := 0#32
  ![v4.toNat, c5_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== FfnDown.lean ====
abbrev S8192x5632 : Shape := ⟨2, ![8192, 5632]⟩
abbrev S8192x2048 : Shape := ⟨2, ![8192, 2048]⟩
abbrev S1x5632x2048 : Shape := ⟨3, ![1, 5632, 2048]⟩
abbrev S5632x2048 : Shape := ⟨2, ![5632, 2048]⟩
abbrev S512x5632 : Shape := ⟨2, ![512, 5632]⟩
abbrev S512x1024 : Shape := ⟨2, ![512, 1024]⟩
abbrev S5632x1024 : Shape := ⟨2, ![5632, 1024]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S1x5632x2048, .f32⟩
  | .hbm, ⟨3, _⟩ => ⟨S5632x2048, .f32⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S5632x1024, .bf16⟩
  | .local _ .vmem, ⟨7, _⟩ => ⟨S5632x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let c0_i32_13 : BitVec 32 := 0#32
  let arg0 : BitVec 32 := BitVec.ofNat 32 (i 0).val
  let c1024_i32 : BitVec 32 := 1024#32
  let v20 : BitVec 32 := Scalar.muli arg0 c1024_i32
  ![0, v20.toNat]
def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let arg0 : BitVec 32 := BitVec.ofNat 32 (i 0).val
  let c1_i32 : BitVec 32 := 1#32
  let v9 : BitVec 32 := Scalar.addi arg0 c1_i32
  let c2_i32 : BitVec 32 := 2#32
  let v10 : BitVec 1 := Scalar.cmpi .slt v9 c2_i32
  let v11 : BitVec 1 := Scalar.andi v8 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let c0_i32_14 : BitVec 32 := 0#32
  let arg0 : BitVec 32 := BitVec.ofNat 32 (i 0).val
  let c1_i32_13 : BitVec 32 := 1#32
  let v20 : BitVec 32 := Scalar.addi arg0 c1_i32_13
  let c1024_i32 : BitVec 32 := 1024#32
  let v21 : BitVec 32 := Scalar.muli v20 c1024_i32
  ![0, v21.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S8192x5632 : Shape := ⟨2, ![8192, 5632]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S1x5632x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Prep.lean ====
abbrev S4x2048x2048 : Shape := ⟨3, ![4, 2048, 2048]⟩
abbrev S4x2048 : Shape := ⟨2, ![4, 2048]⟩
abbrev S1x2048 : Shape := ⟨2, ![1, 2048]⟩
abbrev S1x2048x10784 : Shape := ⟨3, ![1, 2048, 10784]⟩
abbrev S128 : Shape := ⟨1, ![128]⟩
abbrev S8192x2048 : Shape := ⟨2, ![8192, 2048]⟩
abbrev S2048x4 : Shape := ⟨2, ![2048, 4]⟩
abbrev S2048x4x32 : Shape := ⟨3, ![2048, 4, 32]⟩
abbrev S2048x128 : Shape := ⟨2, ![2048, 128]⟩
abbrev S2048x10784 : Shape := ⟨2, ![2048, 10784]⟩
abbrev S10784x2048 : Shape := ⟨2, ![10784, 2048]⟩
abbrev S32 : Shape := ⟨1, ![32]⟩
abbrev S_ : Shape := ⟨0, ![]⟩
abbrev S128x1 : Shape := ⟨2, ![128, 1]⟩
abbrev S1x128 : Shape := ⟨2, ![1, 128]⟩
abbrev S2048 : Shape := ⟨1, ![2048]⟩
abbrev S8192x128 : Shape := ⟨2, ![8192, 128]⟩
abbrev S8192x1536 : Shape := ⟨2, ![8192, 1536]⟩
abbrev S512x2048 : Shape := ⟨2, ![512, 2048]⟩
abbrev S128x128 : Shape := ⟨2, ![128, 128]⟩
abbrev S128x2048 : Shape := ⟨2, ![128, 2048]⟩
abbrev S1536x2048 : Shape := ⟨2, ![1536, 2048]⟩
abbrev S512x128 : Shape := ⟨2, ![512, 128]⟩
abbrev S512x1536 : Shape := ⟨2, ![512, 1536]⟩
abbrev S64x2048 : Shape := ⟨2, ![64, 2048]⟩
abbrev S512 : Shape := ⟨1, ![512]⟩
abbrev S512x1 : Shape := ⟨2, ![512, 1]⟩

abbrev nBuf : Space → Nat
  | .hbm => 39
  | .vmem => 20
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S1x2048, .f32⟩
  | .hbm, ⟨3, _⟩ => ⟨S1x2048x10784, .f32⟩
  | .hbm, ⟨4, _⟩ => ⟨S128, .i32⟩
  | .hbm, ⟨5, _⟩ => ⟨S128, .i1⟩
  | .hbm, ⟨6, _⟩ => ⟨S128, .f32⟩
  | .hbm, ⟨7, _⟩ => ⟨S8192x2048, .f32⟩
  | .hbm, ⟨8, _⟩ => ⟨S2048x4, .i32⟩
  | .hbm, ⟨9, _⟩ => ⟨S2048x4x32, .i32⟩
  | .hbm, ⟨10, _⟩ => ⟨S2048x128, .i32⟩
  | .hbm, ⟨11, _⟩ => ⟨S2048x10784, .f32⟩
  | .hbm, ⟨12, _⟩ => ⟨S10784x2048, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S128, .f32⟩
  | .hbm, ⟨30, _⟩ => ⟨S1x128, .f32⟩
  | .hbm, ⟨31, _⟩ => ⟨S1x128, .f32⟩
  | .hbm, ⟨32, _⟩ => ⟨S2048, .f32⟩
  | .hbm, ⟨33, _⟩ => ⟨S1x2048, .f32⟩
  | .hbm, ⟨34, _⟩ => ⟨S8192x2048, .bf16⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x1536, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S128x128, .i32⟩
  | .local _ .vmem, ⟨4, _⟩ => ⟨S128x128, .i32⟩
  | .local _ .vmem, ⟨5, _⟩ => ⟨S1x128, .f32⟩
  | .local _ .vmem, ⟨6, _⟩ => ⟨S1x128, .f32⟩
  | .local _ .vmem, ⟨7, _⟩ => ⟨S128x2048, .f32⟩
  | .local _ .vmem, ⟨8, _⟩ => ⟨S1536x2048, .f32⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x1536, .bf16⟩
  | .local _ .vmem, ⟨18, _⟩ => ⟨S512x1536, .bf16⟩
  | .local _ .vmem, ⟨19, _⟩ => ⟨S1536x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c6656_i32 : BitVec 32 := 6656#32
  let c0_i32 : BitVec 32 := 0#32
  let c0_i32_0 : BitVec 32 := 0#32
  ![c6656_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepRefIdeal.lean ====
abbrev S4x2048x2048 : Shape := ⟨3, ![4, 2048, 2048]⟩
abbrev S4x2048 : Shape := ⟨2, ![4, 2048]⟩
abbrev S1x2048 : Shape := ⟨2, ![1, 2048]⟩
abbrev S1x2048x10784 : Shape := ⟨3, ![1, 2048, 10784]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x10784 : Shape := ⟨2, ![2048, 10784]⟩
abbrev S8192x10784 : Shape := ⟨2, ![8192, 10784]⟩
abbrev S32 : Shape := ⟨1, ![32]⟩
abbrev S1x32 : Shape := ⟨2, ![1, 32]⟩
abbrev S8192x32 : Shape := ⟨2, ![8192, 32]⟩
abbrev S8192x128 : Shape := ⟨2, ![8192, 128]⟩
abbrev S8192x1024 : Shape := ⟨2, ![8192, 1024]⟩
abbrev S8192x2x2x4x64 : Shape := ⟨5, ![8192, 2, 2, 4, 64]⟩
abbrev S8192x2x4x2x64 : Shape := ⟨5, ![8192, 2, 4, 2, 64]⟩
abbrev S8192x512 : Shape := ⟨2, ![8192, 512]⟩
abbrev S8192x1536 : Shape := ⟨2, ![8192, 1536]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S1x2048, .f32⟩
  | .hbm, ⟨3, _⟩ => ⟨S1x2048x10784, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | .hbm, ⟨23, _⟩ => ⟨S8192x2048, .f32⟩
  | .hbm, ⟨24, _⟩ => ⟨S2048x10784, .f32⟩
  | .hbm, ⟨25, _⟩ => ⟨S8192x10784, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S8192, .i32⟩
  | .hbm, ⟨38, _⟩ => ⟨S8192, .f32⟩
  | .hbm, ⟨39, _⟩ => ⟨S8192x1, .f32⟩
  | .hbm, ⟨40, _⟩ => ⟨S1x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x128, .f32⟩
  | .hbm, ⟨47, _⟩ => ⟨S8192x32, .f32⟩
  | .hbm, ⟨48, _⟩ => ⟨S8192x32, .f32⟩
  | .hbm, ⟨49, _⟩ => ⟨S8192x128, .f32⟩
  | .hbm, ⟨50, _⟩ => ⟨S8192x128, .f32⟩
  | .hbm, ⟨51, _⟩ => ⟨S8192x1024, .f32⟩
  | .hbm, ⟨52, _⟩ => ⟨S8192x2x2x4x64, .f32⟩
  | .hbm, ⟨53, _⟩ => ⟨S8192x2x4x2x64, .f32⟩
  | .hbm, ⟨54, _⟩ => ⟨S8192x1024, .f32⟩
  | .hbm, ⟨55, _⟩ => ⟨S8192x512, .f32⟩
  | .hbm, ⟨56, _⟩ => ⟨S8192x1536, .f32⟩
  | .hbm, ⟨57, _⟩ => ⟨S8192x1536, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Proof.InprojValue.lean ====
/- The values of the input projection: what its pipeline leaves in its three result arrays, over the extended reals. -/
module

public import proofs.«01_k».proof.Proof.Gen.InprojIdeal.Frame
public import proofs.«01_k».proof.Proof.Gen.InprojRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InprojVal

open Cert.InprojIdeal Cert.InprojIdeal.Gen

variable (m : (ℓ : Loc nD τ sig) → Buf (Elt Ideal) ℓ)

/-- The first column of the input projection that the columns of group `j` come from: the gap between the columns of z
and x, B, C and those of the gates is skipped. -/
def colOff (j : Nat) : Nat := if j < 5 then 1536 + 1024 * j else 6688 + 1024 * (j - 5)

/-- Where the blocks of the windows lie at every point (for the window read at element offsets: its offsets). -/
theorem idx : ∀ t : Fin cfg0.N, win0_0.index t = ![t.val % 4, 0] ∧ win0_1.index t = ![colOff (t.val / 4), 0]
    ∧ win0_2.index t = ![min t.val 31, 0] ∧ win0_3.index t = ![min t.val 31, 0]
    ∧ win0_4.index t = ![t.val % 4, t.val / 4]
    ∧ win0_5.index t = ![min t.val 31, 0] ∧ win0_6.index t = ![min t.val 31, 0] :=
  (by decide +kernel : ∀ t : Fin grid0.N, _)

/-- The array of transposed weights, read at an index. -/
theorem warr (c : Dev nD) (e : S10784x2048.Idx) (k : Fin 2048) (q : Fin 10784) (h0 : (e 0 : Nat) = q) (h1 : (e 1 : Nat) = k) :
    (V m c main_v1 : FVec Ideal S10784x2048 .f32) e
      = (m ((c : Thread nD τ).loc main_arg1) : FVec Ideal S1x2048x10784 .f32) (ix3 0 k q) := by
  entry_read
  obtain rfl : e = ix2 q k := by
    funext a
    match a with
    | ⟨0, _⟩ => exact Fin.ext h0
    | ⟨1, _⟩ => exact Fin.ext h1
  pointwise

/-- The block of weights, read at an index: the transposed weight at the offset of the block's columns. -/
theorem wblk (c : Dev nD) (t : Fin cfg0.N) (r : Fin 1024) (k : Fin 2048) (q : Fin 10784)
    (hq : (q : Nat) = colOff (t.val / 4) + r) :
    (show FVec Ideal S1024x2048 .f32 from iblk m c 1 t) (ix2 r k)
      = (m ((c : Thread nD τ).loc main_arg1) : FVec Ideal S1x2048x10784 .f32) (ix3 0 k q) := by
  refine warr m c (((cfg0.win 1).blk t).view.emb (ix2 r k)) k q ?_ ?_
  · refine (Pipeline.Window.rect_emb_val_off win0_1 t (ix2 r k) 0).trans ?_
    have e := (idx t).2.1
    rw [e, hq]; rfl
  · refine (Pipeline.Window.rect_emb_val_off win0_1 t (ix2 r k) 1).trans ?_
    have e := (idx t).2.1
    rw [e]; exact Nat.zero_add _

/-- Within a run of four points the block of weights stays. -/
theorem wblk_prev (c : Dev nD) (t t' : Fin cfg0.N) (h : t'.val / 4 = t.val / 4) :
    (show FVec Ideal S1024x2048 .f32 from iblk m c 1 t') = (show FVec Ideal S1024x2048 .f32 from iblk m c 1 t) := by
  funext y
  have hl : ∀ j, j < 9 → colOff j + 1024 ≤ 10784 := by decide
  have ht : t.val < 36 := lt_of_lt_of_eq t.isLt N_0
  idx_vars y
  have hb := hl (t.val / 4) (by omega)
  exact (wblk m c t' y0 y1 ⟨colOff (t.val / 4) + y0, by omega⟩ (by rw [h])).trans
    (wblk m c t y0 y1 ⟨colOff (t.val / 4) + y0, by omega⟩ rfl).symm

/-- The scratch buffer after point `t` holds the block of weights of the point, rounded. -/
theorem scr (c : Dev nD) : ∀ (n : Nat) (h : n < cfg0.N), (outsAt0 m c n h).2.2.2 = k0_pay1 (F := Ideal) (iblk m c 1 ⟨n, h⟩) := by
  intro n
  induction n with
  | zero =>
    intro h
    have := outsAt0_A m c ⟨0, h⟩ rfl
    rw [this]
    frame_out
  | succ n ih =>
    intro h
    by_cases h4 : (n + 1) % 4 = 0
    · have := outsAt0_A m c ⟨n + 1, h⟩ h4
      rw [this]
      frame_out
    · have := outsAt0_B m c ⟨n + 1, h⟩ h4
      rw [this]
      frame_out
      refine (ih _).trans (congrArg _ (wblk_prev m c _ _ ?_))
      show n / 4 = (n + 1) / 4
      omega

/-- The reference's first result. -/
def refZ (x : FVec Ideal Cert.InprojRefIdeal.S8192x2048 .bf16) (w : FVec Ideal Cert.InprojRefIdeal.S1x2048x10784 .f32) :
    FVec Ideal Cert.InprojRefIdeal.S8192x9216 .bf16 :=
  truncf .bf16 (concatenate Cert.InprojRefIdeal.S8192x9216 1
    [⟨Cert.InprojRefIdeal.S8192x5120, extractStridedSlice Cert.InprojRefIdeal.S8192x5120 ![0, 1536]
        (Host.dotGeneral (F := Ideal) Cert.InprojRefIdeal.dot_S8192x2048_S2048x10784_S8192x10784_1_0_0_1_n_n none
          (extf .f32 x Cert.InprojRefIdeal.Gen.bitsLt_bf16_f32)
          (shapeCast Cert.InprojRefIdeal.S2048x10784 w Cert.InprojRefIdeal.Gen.shapeCasts_S1x2048x10784_S2048x10784))
        Cert.InprojRefIdeal.Gen.slices_S8192x10784_S8192x5120_0_1536⟩,
     ⟨Cert.InprojRefIdeal.S8192x4096, extractStridedSlice Cert.InprojRefIdeal.S8192x4096 ![0, 6688]
        (Host.dotGeneral (F := Ideal) Cert.InprojRefIdeal.dot_S8192x2048_S2048x10784_S8192x10784_1_0_0_1_n_n none
          (extf .f32 x Cert.InprojRefIdeal.Gen.bitsLt_bf16_f32)
          (shapeCast Cert.InprojRefIdeal.S2048x10784 w Cert.InprojRefIdeal.Gen.shapeCasts_S1x2048x10784_S2048x10784))
        Cert.InprojRefIdeal.Gen.slices_S8192x10784_S8192x4096_0_6688⟩]
    Cert.InprojRefIdeal.Gen.concatenates_S8192x5120_S8192x4096_S8192x9216_d1) Cert.InprojRefIdeal.Gen.bitsLt_bf16_f32

/-- It is read as a sum over the columns of the weight that the result keeps. -/
theorem refZ_apply (x : FVec Ideal Cert.InprojRefIdeal.S8192x2048 .bf16) (w : FVec Ideal Cert.InprojRefIdeal.S1x2048x10784 .f32)
    (j : Cert.InprojRefIdeal.S8192x9216.Idx) (r : Fin 8192) (n : Fin 9216) (q : Fin 10784) (h0 : (j 0 : Nat) = r) (h1 : (j 1 : Nat) = n)
    (hq : (q : Nat) = colOff (n / 1024) + n % 1024) :
    refZ x w j = ∑ k : Fin 2048, x (ix2 r k) * w (ix3 0 k q) := by
  obtain rfl : j = ix2 r n := by
    funext a
    match a with
    | ⟨0, _⟩ => exact Fin.ext h0
    | ⟨1, _⟩ => exact Fin.ext h1
  pointwise [refZ]
  unfold colOff at hq
  split
  all_goals
    refine Fin.sum_fin_congr fun k => Ideal.mul_congr rfl (congrArg (fun z => w (ix3 0 k z)) (Fin.ext ?_))
    simp only []
    split at hq <;> omega

/-- What a point stores, at an index. -/
theorem pay2_apply (x : FVec Ideal S2048x2048 .bf16) (w : FVec Ideal S1024x2048 .f32) (r : Fin 2048) (l : Fin 1024) :
    k0_pay2 x (k0_pay1 w) (ix2 r l) = ∑ k : Fin 2048, x (ix2 r k) * w (ix2 l k) := by
  pointwise [k0_pay2, k0_pay1]

/-- The block of zxg written at a point is the block of the reference's result there. -/
theorem point4 (c : Dev nD) (t : Fin cfg0.N) (y : S2048x1024.Idx) :
    k0_pay2 (F := Ideal) (iblk m c 0 t) (k0_pay1 (F := Ideal) (iblk m c 1 t)) y
      = refZ (m ((c : Thread nD τ).loc main_arg0)) (m ((c : Thread nD τ).loc main_arg1)) (((cfg0.win 4).blk t).view.emb y) := by
  have hl : ∀ j, j < 9 → colOff j + 1024 ≤ 10784 := by decide
  have ht : t.val < 36 := lt_of_lt_of_eq t.isLt N_0
  idx_vars y
  have hb := hl (t.val / 4) (by omega)
  refine (pay2_apply _ _ y0 y1).trans ?_
  refine Eq.trans ?_ (refZ_apply _ _ _ ⟨2048 * (t.val % 4) + y0, by omega⟩ ⟨1024 * (t.val / 4) + y1, by omega⟩
    ⟨colOff (t.val / 4) + y1, by omega⟩ ?_ ?_ ?_).symm
  · refine Fin.sum_fin_congr fun k => Ideal.mul_congr ?_ ?_
    · blk_ext [iblk, V, idx t]
    · exact wblk m c t y1 k _ rfl
  · blk_simp [idx t]
    change _ = 2048 * (t.val % 4) + (y0 : Nat)
    omega
  · blk_simp [idx t]
    change _ = 1024 * (t.val / 4) + (y1 : Nat)
    omega
  · show colOff (t.val / 4) + y1 = colOff ((1024 * (t.val / 4) + y1) / 1024) + (1024 * (t.val / 4) + y1) % 1024
    rw [show (1024 * (t.val / 4) + (y1 : Nat)) / 1024 = t.val / 4 by omega, show (1024 * (t.val / 4) + (y1 : Nat)) % 1024 = y1 by omega]

/-- The first result array. -/
theorem final4 (c : Dev nD) : (dats m 0 c).arrAt 4 (cfgs 0).N
    = refZ (m ((c : Thread nD τ).loc main_arg0)) (m ((c : Thread nD τ).loc main_arg1)) := by
  refine (dats m 0 c).arrAt_eq_of_covers 4 _ (by decide +kernel) fun t hf y => ?_
  blk_simp; rw [after0_4]
  refine Eq.trans (congrFun (?_ : _ = k0_pay2 (F := Ideal) (iblk m c 0 t) (k0_pay1 (F := Ideal) (iblk m c 1 t))) y) (point4 m c t y)
  by_cases h : t.val % 4 = 0
  · rw [outsAt0_A m c t h]; frame_out
  · rw [outsAt0_B m c t h]; frame_out
    rw [scr m c (t.val - 1) (Nat.lt_of_le_of_lt (Nat.sub_le _ _) t.isLt)]
    refine (congrArg (k0_pay2 (F := Ideal) (iblk m c 0 t)) ((Memref.isWhole_whole cc0_scratch0).read_unread _)).trans ?_
    refine congrArg _ (congrArg _ (wblk_prev m c _ _ ?_))
    show (t.val - 1) / 4 = t.val / 4
    omega

/-- The reference's cast of a weight. -/
def refC (a : FVec Ideal S1x2048x2048 .f32) : FVec Ideal S2048x2048 .bf16 :=
  truncf .bf16 (shapeCast S2048x2048 a shapeCasts_S1x2048x2048_S2048x2048) bitsLt_bf16_f32

/-- The second result array. -/
theorem final5 (c : Dev nD) : (dats m 0 c).arrAt 5 (cfgs 0).N = refC (m ((c : Thread nD τ).loc main_arg2)) := by
  refine (dats m 0 c).arrAt_eq_of_covers 5 _ (by decide +kernel) fun t hf y => ?_
  blk_simp; rw [after0_5]
  refine Eq.trans (congrFun (?_ : _ = k0_pay3 (F := Ideal) (iblk m c 2 t)) y) ?_
  · by_cases h : t.val % 4 = 0
    · rw [outsAt0_A m c t h]; frame_out
    · rw [outsAt0_B m c t h]; frame_out
  · pointwise [k0_pay3, refC]; blk_point [iblk, idx t]

/-- The third result array. -/
theorem final6 (c : Dev nD) : (dats m 0 c).arrAt 6 (cfgs 0).N = refC (m ((c : Thread nD τ).loc main_arg3)) := by
  refine (dats m 0 c).arrAt_eq_of_covers 6 _ (by decide +kernel) fun t hf y => ?_
  blk_simp; rw [after0_6]
  refine Eq.trans (congrFun (?_ : _ = k0_pay4 (F := Ideal) (iblk m c 3 t)) y) ?_
  · by_cases h : t.val % 4 = 0
    · rw [outsAt0_A m c t h]; frame_out
    · rw [outsAt0_B m c t h]; frame_out
  · pointwise [k0_pay4, refC]; blk_point [iblk, idx t]

end Cert.InprojVal

end
-- ==== Proof.Shared.lean ====
/- Readings that several kernels share: the root mean square norm of a row, indices by their parts. -/
module

public import Idealize.ShloMosaic.Lib.Pipeline.ValueKit

@[expose] public section

noncomputable section

open Idealize.ShloMosaic
open scoped BigOperators

namespace Cert.Shr

/-- A row of 2048 values over the root of its mean square, times a weight. -/
def rms (h : Fin 2048 → Ideal .f32) (g : Ideal .f32) (l : Fin 2048) : Ideal .f32 :=
  h l * Ideal.rsqrt (Ideal.div (∑ x, h x * h x) (Ideal.ofBits FTy.f32 1157627904#32) + Ideal.ofBits FTy.f32 897988541#32) * g

/-- Rows that agree have the same norm. -/
theorem rms_congr {h h' : Fin 2048 → Ideal .f32} {g g' : Ideal .f32} (e : ∀ l, h l = h' l) (eg : g = g') (l : Fin 2048) :
    rms h g l = rms h' g' l := by
  rw [show h = h' from funext e, eg]

/-- An index of rank two by its parts. -/
theorem eq_ix2 {a b : Nat} (j : (⟨2, ![a, b]⟩ : Shape).Idx) (r : Fin a) (n : Fin b) (h0 : (j 0 : Nat) = r) (h1 : (j 1 : Nat) = n) :
    j = ix2 r n := by
  funext x
  match x with
  | ⟨0, _⟩ => exact Fin.ext h0
  | ⟨1, _⟩ => exact Fin.ext h1

/-- A load of a rectangle of a block of rank two, at an index. -/
theorem ld2 {Val : EltTy → Type} {e : EltTy} {a b a' b' : Nat} (X : (⟨2, ![a, b]⟩ : Shape).Idx → Val e) {o0 o1 : Nat}
    (inb : ∀ i : Fin 2, (![o0, o1] : Fin 2 → Nat) i + (![a', b'] : Fin 2 → Nat) i ≤ (⟨2, ![a, b]⟩ : Shape).size i)
    (x : Fin a') (l : Fin b') (r : Fin a) (n : Fin b) (h0 : (r : Nat) = o0 + x) (h1 : (n : Nat) = o1 + l) :
    View.ld X (Rect.unit (s := ⟨2, ![a, b]⟩) ![o0, o1] ![a', b'] inb) (ix2 x l) = X (ix2 r n) := by
  refine congrArg X (eq_ix2 _ r n ?_ ?_)
  · refine Eq.trans ?_ h0.symm
    show o0 + 1 * (x : Nat) = _
    omega
  · refine Eq.trans ?_ h1.symm
    show o1 + 1 * (l : Nat) = _
    omega

end Cert.Shr

end
-- ==== Proof.Sigmoid.lean ====
/- The sigmoid written with a power of two is the sigmoid written with the exponential, over the extended reals. -/
module

public import Idealize.ShloMosaic.Lib.Pipeline.ValueKit

@[expose] public section

noncomputable section

open Idealize.ShloMosaic

namespace Cert.Sigm

/-- A power of two at the argument times -1/ln 2 is the exponential at the negated argument. -/
theorem exp2_mul (x : EReal) : Ideal.exp2 (x * ((-((Real.log 2)⁻¹) : ℝ) : EReal)) = Ideal.exp (-x) := by
  have hl : (0 : ℝ) < Real.log 2 := Real.log_pos (by norm_num)
  have hc : (-((Real.log 2)⁻¹) : ℝ) < 0 := by
    have := inv_pos.mpr hl
    linarith
  induction x with
  | bot =>
    rw [EReal.bot_mul_coe_of_neg hc, EReal.neg_bot]
    rfl
  | top =>
    rw [EReal.top_mul_coe_of_neg hc, EReal.neg_top]
    rfl
  | coe r =>
    rw [← EReal.coe_mul, ← EReal.coe_neg]
    show ((Real.rpow 2 (r * -((Real.log 2)⁻¹)) : ℝ) : EReal) = ((Real.exp (-r) : ℝ) : EReal)
    congr 1
    show (2 : ℝ) ^ (r * -((Real.log 2)⁻¹)) = _
    rw [Real.rpow_def_of_pos (by norm_num)]
    congr 1
    field_simp

/-- The two sigmoids agree. -/
theorem sigmoid (x : EReal) :
    Ideal.div 1 (1 + Ideal.exp2 (x * ((-((Real.log 2)⁻¹) : ℝ) : EReal))) = Ideal.logistic x := by
  rw [exp2_mul]
  rfl

end Cert.Sigm

end
-- ==== Proof.MergeValue.lean ====
/- The values of the call that projects the two branches and adds them through their gates. -/
module

public import proofs.«01_k».proof.Proof.Gen.MergeIdeal.Frame
public import proofs.«01_k».proof.Proof.Gen.MergeRefIdeal.Read
public import proofs.«01_k».proof.Proof.Shared
public import proofs.«01_k».proof.Proof.Sigmoid
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MergeVal

open Cert.MergeIdeal Cert.MergeIdeal.Gen

variable (m : (ℓ : Loc nD τ sig) → Buf (Elt Ideal) ℓ)

/-- Where the blocks of the windows lie. -/
theorem idx : ∀ t : Fin cfg0.N, win0_0.index t = ![t.val % 16, 0] ∧ win0_1.index t = ![t.val % 16, 0] ∧ win0_2.index t = ![t.val % 16, 5 + t.val / 16]
    ∧ win0_3.index t = ![t.val % 16, 7 + t.val / 16] ∧ win0_4.index t = ![0, t.val / 16] ∧ win0_5.index t = ![0, t.val / 16]
    ∧ win0_6.index t = ![t.val % 16, t.val / 16] :=
  (by decide +kernel : ∀ t : Fin grid0.N, _)

/-- The row of the weight that stands at row `k` of the scratch buffer: within a group of eight heads the pair `(group, sub)` turned round. -/
noncomputable def sg (k : Nat) : Nat := 512 * (k / 512) + 64 * (4 * (k / 64 % 2) + k / 128 % 4) + k % 64

/-- The way back. -/
noncomputable def tu (k : Nat) : Nat := 512 * (k / 512) + 64 * (2 * (k / 64 % 4) + k / 256 % 2) + k % 64

/-- The two as a permutation. -/
noncomputable def sgEquiv : Fin 1024 ≃ Fin 1024 where
  toFun k := ⟨sg k.val, by unfold sg; omega⟩
  invFun k := ⟨tu k.val, by unfold tu; omega⟩
  left_inv k := Fin.ext ((by decide +kernel : ∀ k : Fin 1024, tu (sg k.val) = k.val) k)
  right_inv k := Fin.ext ((by decide +kernel : ∀ k : Fin 1024, sg (tu k.val) = k.val) k)

/-- One entry of the gated sum of the two projections. -/
noncomputable def mrg (a w : Fin 1024 → Ideal .f32) (y u : Fin 2048 → Ideal .f32) (p q : Ideal .f32) : Ideal .f32 :=
  Ideal.logistic p * (∑ k, a k * w k) + Ideal.logistic q * ∑ k, y k * u k

theorem mrg_congr {a a' w w' : Fin 1024 → Ideal .f32} {y y' u u' : Fin 2048 → Ideal .f32} {p p' q q' : Ideal .f32} (ea : ∀ k, a k = a' k) (ew : ∀ k, w k = w' k)
    (ey : ∀ k, y k = y' k) (eu : ∀ k, u k = u' k) (ep : p = p') (eq : q = q') : mrg a w y u p q = mrg a' w' y' u' p' q' := by
  rw [show a = a' from funext ea, show w = w' from funext ew, show y = y' from funext ey, show u = u' from funext eu, ep, eq]

/-- The order of the heads' columns does not matter as long as both factors share it. -/
theorem mrg_perm (a w : Fin 1024 → Ideal .f32) (y u : Fin 2048 → Ideal .f32) (p q : Ideal .f32) :
    mrg a (fun k => w (sgEquiv k)) y u p q = mrg (fun k => a (sgEquiv.symm k)) w y u p q := by
  have e : ∑ k, a k * w (sgEquiv k) = ∑ k, a (sgEquiv.symm k) * w k :=
    Fintype.sum_equiv sgEquiv _ _ fun k => congrArg (fun z => a z * w (sgEquiv k)) (Equiv.symm_apply_apply sgEquiv k).symm
  exact congrArg (fun z => Ideal.logistic p * z + Ideal.logistic q * ∑ k, y k * u k) e

theorem pay20_apply (a : FVec Ideal S512x1024 .bf16) (w : FVec Ideal S1024x1024 .bf16) (y : FVec Ideal S512x2048 .bf16) (u : FVec Ideal S2048x1024 .bf16)
    (p q : FVec Ideal S512x1024 .bf16) (r : Fin 512) (l : Fin 1024) :
    k0_pay20 (F := Ideal) a w y u p q (ix2 r l)
      = mrg (fun k => a (ix2 r k)) (fun k => w (ix2 k l)) (fun k => y (ix2 r k)) (fun k => u (ix2 k l)) (p (ix2 r l)) (q (ix2 r l)) := by
  unfold mrg
  rw [← Sigm.sigmoid, ← Sigm.sigmoid]
  pointwise [k0_pay20]
  rfl

open Cert.MergeRefIdeal.Read in
theorem attn_apply (a : FVec Ideal Cert.MergeRefIdeal.S8192x1024 .bf16) (r : Fin 8192) (k : Fin 1024) :
    val_main_v3 (F := Ideal) a (ix2 r k) = a (ix2 r (sgEquiv.symm k)) := by
  pointwise [val_main_v0, val_main_v1, val_main_v2, val_main_v3]
  refine congrArg a (congrArg (ix2 r) (Fin.ext ?_))
  show _ = tu k.val
  unfold tu
  simp only []
  omega

open Cert.MergeRefIdeal.Read in
theorem ref_apply (a : FVec Ideal Cert.MergeRefIdeal.S8192x1024 .bf16) (y : FVec Ideal Cert.MergeRefIdeal.S8192x2048 .bf16)
    (z : FVec Ideal Cert.MergeRefIdeal.S8192x9216 .bf16) (w : FVec Ideal Cert.MergeRefIdeal.S1x1024x2048 .f32)
    (u : FVec Ideal Cert.MergeRefIdeal.S1x2048x2048 .f32) (r : Fin 8192) (l : Fin 2048) :
    val_main_v28 (F := Ideal) a y z w u (ix2 r l)
      = mrg (fun k => a (ix2 r (sgEquiv.symm k))) (fun k => w (ix3 0 k l)) (fun k => y (ix2 r k)) (fun k => u (ix3 0 k l))
        (z (ix2 r ⟨5120 + l.val, by omega⟩)) (z (ix2 r ⟨7168 + l.val, by omega⟩)) := by
  unfold mrg Ideal.logistic
  simp only [← attn_apply]
  pointwise [val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_cst_1, val_main_v22, val_main_v23, val_main_cst_2, val_main_v24, val_main_v25, val_main_v26, val_main_v27, val_main_v28]

/-- The rows of a block of weights in the order of the scratch buffer. -/
noncomputable def turned (W : FVec Ideal S1024x1024 .f32) (y : S1024x1024.Idx) : Ideal .bf16 := W (ix2 (sgEquiv (y 0)) (y 1))

/-- Rows of a block, rounded. -/
theorem round_apply (v : FVec Ideal S64x1024 .f32) (h1 h2 h3) (x : S64x1024.Idx) :
    shapeCast (α := Ideal .bf16) S64x1024 (truncf (F := Ideal) .bf16 (shapeCast (α := Ideal .f32) S64x1024 v h1) h2) h3 x = v x := by
  idx_vars x
  pointwise

/-- One tile of the scratch buffer. -/
theorem tile (W : FVec Ideal S1024x1024 .f32) (src dst : Nat) (inb) (h1 h2 h3)
    (y : S1024x1024.Idx) (x : S64x1024.Idx) (e0 : ((y 0 : Fin 1024) : Nat) = dst + ((x 0 : Fin 64) : Nat)) (e1 : ((y 1 : Fin 1024) : Nat) = ((x 1 : Fin 1024) : Nat))
    (hs : ∀ d : Fin 64, sg (dst + d.val) = src + d.val) :
    shapeCast (α := Ideal .bf16) S64x1024 (truncf (F := Ideal) .bf16 (shapeCast (α := Ideal .f32) S64x1024
      (View.ld (Val := Elt Ideal) (S := S1024x1024) (e' := .f32) W (Rect.unit (s := S1024x1024) ![src, 0] ![64, 1024] inb)) h1) h2) h3 x = turned W y := by
  refine (round_apply _ h1 h2 h3 x).trans ?_
  idx_vars x
  refine Shr.ld2 (Val := Elt Ideal) (e := .f32) W inb x0 x1 _ _ ?_ ?_
  · show sg ((y 0 : Fin 1024) : Nat) = _
    rw [e0]
    exact hs x0
  · exact e1.trans (Nat.zero_add _).symm

theorem scrA (c : Dev nD) (t : Fin cfg0.N) (h16 : t.val % 16 = 0) : (outsAt0 m c t.val t.isLt).2.1 = turned (iblk m c 4 t) := by
  rw [outsAt0_A m c t h16]
  frame_out
  funext y
  canon_tiles x h
  case piece0 => exact tile _ _ 960 _ _ _ _ y x h0 h1 (by decide +kernel)
  case piece1 => exact tile _ _ 896 _ _ _ _ y x h0 h1 (by decide +kernel)
  case piece2 => exact tile _ _ 832 _ _ _ _ y x h0 h1 (by decide +kernel)
  case piece3 => exact tile _ _ 768 _ _ _ _ y x h0 h1 (by decide +kernel)
  case piece4 => exact tile _ _ 704 _ _ _ _ y x h0 h1 (by decide +kernel)
  case piece5 => exact tile _ _ 640 _ _ _ _ y x h0 h1 (by decide +kernel)
  case piece6 => exact tile _ _ 576 _ _ _ _ y x h0 h1 (by decide +kernel)
  case piece7 => exact tile _ _ 512 _ _ _ _ y x h0 h1 (by decide +kernel)
  case piece8 => exact tile _ _ 448 _ _ _ _ y x h0 h1 (by decide +kernel)
  case piece9 => exact tile _ _ 384 _ _ _ _ y x h0 h1 (by decide +kernel)
  case piece10 => exact tile _ _ 320 _ _ _ _ y x h0 h1 (by decide +kernel)
  case piece11 => exact tile _ _ 256 _ _ _ _ y x h0 h1 (by decide +kernel)
  case piece12 => exact tile _ _ 192 _ _ _ _ y x h0 h1 (by decide +kernel)
  case piece13 => exact tile _ _ 128 _ _ _ _ y x h0 h1 (by decide +kernel)
  case piece14 => exact tile _ _ 64 _ _ _ _ y x h0 h1 (by decide +kernel)
  case piece15 => exact tile _ _ 0 _ _ _ _ y x (by omega) h1 (by decide +kernel)

theorem scrB (c : Dev nD) (t : Fin cfg0.N) (h16 : t.val % 16 = 0) : (outsAt0 m c t.val t.isLt).2.2 = k0_pay19 (F := Ideal) (k0_pay18 (F := Ideal) (iblk m c 5 t)) := by
  rw [outsAt0_A m c t h16]
  frame_out
  rfl

/-- The arrays of weights, read at an index. -/
theorem arr4 (c : Dev nD) (e : S1024x2048.Idx) (k : Fin 1024) (l : Fin 2048) (h0 : (e 0 : Nat) = k) (h1 : (e 1 : Nat) = l) :
    (V m c main_v0 : FVec Ideal S1024x2048 .f32) e = (m ((c : Thread nD τ).loc main_arg3) : FVec Ideal S1x1024x2048 .f32) (ix3 0 k l) := by
  entry_read
  obtain rfl := Shr.eq_ix2 e k l h0 h1
  pointwise

theorem arr5 (c : Dev nD) (e : S2048x2048.Idx) (k : Fin 2048) (l : Fin 2048) (h0 : (e 0 : Nat) = k) (h1 : (e 1 : Nat) = l) :
    (V m c main_v1 : FVec Ideal S2048x2048 .f32) e = (m ((c : Thread nD τ).loc main_arg4) : FVec Ideal S1x2048x2048 .f32) (ix3 0 k l) := by
  entry_read
  obtain rfl := Shr.eq_ix2 e k l h0 h1
  pointwise

theorem blk4 (c : Dev nD) (t : Fin cfg0.N) (k : Fin 1024) (r : Fin 1024) (l : Fin 2048) (hl : (l : Nat) = 1024 * (t.val / 16) + r) :
    (show FVec Ideal S1024x1024 .f32 from iblk m c 4 t) (ix2 k r) = (m ((c : Thread nD τ).loc main_arg3) : FVec Ideal S1x1024x2048 .f32) (ix3 0 k l) := by
  refine arr4 m c (((cfg0.win 4).blk t).view.emb (ix2 k r)) k l (by blk_simp [idx t]) ?_
  blk_simp [idx t]
  change _ = l.val
  omega

theorem blk5 (c : Dev nD) (t : Fin cfg0.N) (k : Fin 2048) (r : Fin 1024) (l : Fin 2048) (hl : (l : Nat) = 1024 * (t.val / 16) + r) :
    (show FVec Ideal S2048x1024 .f32 from iblk m c 5 t) (ix2 k r) = (m ((c : Thread nD τ).loc main_arg4) : FVec Ideal S1x2048x2048 .f32) (ix3 0 k l) := by
  refine arr5 m c (((cfg0.win 5).blk t).view.emb (ix2 k r)) k l (by blk_simp [idx t]) ?_
  blk_simp [idx t]
  change _ = l.val
  omega

theorem prev4 (c : Dev nD) (t t' : Fin cfg0.N) (h : t'.val / 16 = t.val / 16) :
    (show FVec Ideal S1024x1024 .f32 from iblk m c 4 t') = (show FVec Ideal S1024x1024 .f32 from iblk m c 4 t) := by
  have ht : t.val < 32 := lt_of_lt_of_eq t.isLt N_0
  funext y
  idx_vars y
  exact (blk4 m c t' y0 y1 ⟨1024 * (t.val / 16) + y1, by omega⟩ (by rw [h])).trans (blk4 m c t y0 y1 _ rfl).symm

theorem prev5 (c : Dev nD) (t t' : Fin cfg0.N) (h : t'.val / 16 = t.val / 16) :
    (show FVec Ideal S2048x1024 .f32 from iblk m c 5 t') = (show FVec Ideal S2048x1024 .f32 from iblk m c 5 t) := by
  have ht : t.val < 32 := lt_of_lt_of_eq t.isLt N_0
  funext y
  idx_vars y
  exact (blk5 m c t' y0 y1 ⟨1024 * (t.val / 16) + y1, by omega⟩ (by rw [h])).trans (blk5 m c t y0 y1 _ rfl).symm

/-- The scratch buffers hold the rounded weights after every point. -/
theorem scr4 (c : Dev nD) : ∀ (n : Nat) (h : n < cfg0.N), (outsAt0 m c n h).2.1 = turned (iblk m c 4 ⟨n, h⟩) := by
  intro n
  induction n with
  | zero =>
    intro h
    exact scrA m c ⟨0, h⟩ rfl
  | succ n ih =>
    intro h
    by_cases h4 : (n + 1) % 16 = 0
    · exact scrA m c ⟨n + 1, h⟩ h4
    · have := outsAt0_B m c ⟨n + 1, h⟩ h4
      rw [this]
      frame_out
      refine (ih _).trans (congrArg turned (prev4 m c _ _ ?_))
      show n / 16 = (n + 1) / 16
      omega

theorem scr5 (c : Dev nD) : ∀ (n : Nat) (h : n < cfg0.N), (outsAt0 m c n h).2.2 = k0_pay19 (F := Ideal) (k0_pay18 (F := Ideal) (iblk m c 5 ⟨n, h⟩)) := by
  intro n
  induction n with
  | zero =>
    intro h
    exact scrB m c ⟨0, h⟩ rfl
  | succ n ih =>
    intro h
    by_cases h4 : (n + 1) % 16 = 0
    · exact scrB m c ⟨n + 1, h⟩ h4
    · have := outsAt0_B m c ⟨n + 1, h⟩ h4
      rw [this]
      frame_out
      refine (ih _).trans (congrArg (fun z => k0_pay19 (F := Ideal) (k0_pay18 (F := Ideal) z)) (prev5 m c _ _ ?_))
      show n / 16 = (n + 1) / 16
      omega

/-- What a point stores, over its blocks. -/
def val6 (c : Dev nD) (t : Fin cfg0.N) : FVec Ideal S512x1024 .bf16 :=
  k0_pay20 (F := Ideal) (iblk m c 0 t) (turned (iblk m c 4 t)) (iblk m c 1 t) (k0_pay19 (F := Ideal) (k0_pay18 (F := Ideal) (iblk m c 5 t))) (iblk m c 2 t) (iblk m c 3 t)

theorem out6_B (c : Dev nD) (t : Fin cfg0.N) (h : ¬ t.val % 16 = 0) : (outsAt0 m c t.val t.isLt).1 = val6 m c t := by
  have e1 : (View.read (Elt Ideal) (View.whole cc0_scratch0) ((Memref.isWhole_whole cc0_scratch0).unread (outsAt0 m c (t.val - 1) (Nat.lt_of_le_of_lt (Nat.sub_le _ _) t.isLt)).2.1))
      = turned (iblk m c 4 t) := by
    refine ((Memref.isWhole_whole cc0_scratch0).read_unread _).trans ((scr4 m c _ _).trans (congrArg turned (prev4 m c _ _ ?_)))
    show (t.val - 1) / 16 = t.val / 16
    omega
  have e2 : (View.read (Elt Ideal) (View.whole cc0_scratch1) ((Memref.isWhole_whole cc0_scratch1).unread (outsAt0 m c (t.val - 1) (Nat.lt_of_le_of_lt (Nat.sub_le _ _) t.isLt)).2.2))
      = k0_pay19 (F := Ideal) (k0_pay18 (F := Ideal) (iblk m c 5 t)) := by
    refine ((Memref.isWhole_whole cc0_scratch1).read_unread _).trans ((scr5 m c _ _).trans (congrArg (fun z => k0_pay19 (F := Ideal) (k0_pay18 (F := Ideal) z)) (prev5 m c _ _ ?_)))
    show (t.val - 1) / 16 = t.val / 16
    omega
  rw [outsAt0_B m c t h]
  frame_out
  rw [e1, e2]
  rfl

theorem out6_A (c : Dev nD) (t : Fin cfg0.N) (h : t.val % 16 = 0) : (outsAt0 m c t.val t.isLt).1 = val6 m c t := by
  rw [outsAt0_A m c t h]
  frame_out
  clear h
  unfold val6
  refine congrArg₂ (fun a b => k0_pay20 (F := Ideal) (iblk m c 0 t) a (iblk m c 1 t) b (iblk m c 2 t) (iblk m c 3 t)) ?_ ?_
  · rw [View.readCov_eq_canon']
    funext j
    refine Eq.trans (b := turned (iblk m c 4 t) ((Rect.unit (s := S1024x1024) ![0, 0] ![1024, 1024] inb_S1024x1024_S1024x1024_0_0).toLoadRect.idx j)) ?_ ?_
    rotate_left
    · refine congrArg (turned (iblk m c 4 t)) ?_
      funext a
      apply Fin.ext
      match a with
      | ⟨0, _⟩ => exact (Nat.zero_add _).trans (Nat.one_mul _)
      | ⟨1, _⟩ => exact (Nat.zero_add _).trans (Nat.one_mul _)
    generalize (Rect.unit (s := S1024x1024) ![0, 0] ![1024, 1024] inb_S1024x1024_S1024x1024_0_0).toLoadRect.idx j = y
    canon_tiles x h
    case piece0 => exact tile _ _ 960 _ _ _ _ y x h0 h1 (by decide +kernel)
    case piece1 => exact tile _ _ 896 _ _ _ _ y x h0 h1 (by decide +kernel)
    case piece2 => exact tile _ _ 832 _ _ _ _ y x h0 h1 (by decide +kernel)
    case piece3 => exact tile _ _ 768 _ _ _ _ y x h0 h1 (by decide +kernel)
    case piece4 => exact tile _ _ 704 _ _ _ _ y x h0 h1 (by decide +kernel)
    case piece5 => exact tile _ _ 640 _ _ _ _ y x h0 h1 (by decide +kernel)
    case piece6 => exact tile _ _ 576 _ _ _ _ y x h0 h1 (by decide +kernel)
    case piece7 => exact tile _ _ 512 _ _ _ _ y x h0 h1 (by decide +kernel)
    case piece8 => exact tile _ _ 448 _ _ _ _ y x h0 h1 (by decide +kernel)
    case piece9 => exact tile _ _ 384 _ _ _ _ y x h0 h1 (by decide +kernel)
    case piece10 => exact tile _ _ 320 _ _ _ _ y x h0 h1 (by decide +kernel)
    case piece11 => exact tile _ _ 256 _ _ _ _ y x h0 h1 (by decide +kernel)
    case piece12 => exact tile _ _ 192 _ _ _ _ y x h0 h1 (by decide +kernel)
    case piece13 => exact tile _ _ 128 _ _ _ _ y x h0 h1 (by decide +kernel)
    case piece14 => exact tile _ _ 64 _ _ _ _ y x h0 h1 (by decide +kernel)
    case piece15 => exact tile _ _ 0 _ _ _ _ y x (by omega) h1 (by decide +kernel)
  · rfl

/-- The reference's result. -/
abbrev ref (c : Dev nD) := Cert.MergeRefIdeal.Read.val_main_v28 (F := Ideal) (m ((c : Thread nD τ).loc main_arg0))
  (m ((c : Thread nD τ).loc main_arg1)) (m ((c : Thread nD τ).loc main_arg2)) (m ((c : Thread nD τ).loc main_arg3)) (m ((c : Thread nD τ).loc main_arg4))

/-- The result array. -/
theorem final6 (c : Dev nD) : (dats m 0 c).arrAt 6 (cfgs 0).N = ref m c := by
  refine (dats m 0 c).arrAt_eq_of_covers 6 _ (by decide +kernel) fun t hf y => ?_
  blk_simp; rw [after0_6]
  have ht : t.val < 32 := lt_of_lt_of_eq t.isLt N_0
  refine Eq.trans (congrFun (?_ : _ = val6 m c t) y) ?_
  · by_cases h : t.val % 16 = 0
    · exact out6_A m c t h
    · exact out6_B m c t h
  · idx_vars y
    refine Eq.trans ?_ (congrArg (ref m c) (Shr.eq_ix2 _ ⟨512 * (t.val % 16) + y0, by omega⟩ ⟨1024 * (t.val / 16) + y1, by omega⟩ ?_ ?_).symm)
    · refine Eq.trans ?_ (ref_apply _ _ _ _ _ _ _).symm
      refine (pay20_apply _ _ _ _ _ _ y0 y1).trans ?_
      refine Eq.trans ?_ (mrg_perm (fun k => (m ((c : Thread nD τ).loc main_arg0) : FVec Ideal S8192x1024 .bf16) (ix2 ⟨512 * (t.val % 16) + y0, by omega⟩ k)) (fun k => (m ((c : Thread nD τ).loc main_arg3) : FVec Ideal S1x1024x2048 .f32) (ix3 0 k ⟨1024 * (t.val / 16) + y1, by omega⟩)) _ _ _ _)
      refine mrg_congr (fun k => ?_) (fun k => ?_) (fun k => ?_) (fun k => ?_) ?_ ?_
      · blk_ext [iblk, V, idx t]
      · exact blk4 m c t (sgEquiv k) y1 _ rfl
      · blk_ext [iblk, V, idx t]
      · refine Eq.trans ?_ (blk5 m c t k y1 _ rfl)
        pointwise [k0_pay18, k0_pay19]
      · blk_ext [iblk, V, idx t]
      · blk_ext [iblk, V, idx t]
    · blk_simp [idx t]
      change _ = 512 * (t.val % 16) + (y0 : Nat)
      omega
    · blk_simp [idx t]
      change _ = 1024 * (t.val / 16) + (y1 : Nat)
      omega

end Cert.MergeVal

end
-- ==== Proof.OprojValue.lean ====
/- The values of the output projection with the residual and the norm before the feed-forward part. -/
module

public import proofs.«01_k».proof.Proof.Gen.OprojIdeal.Frame
public import proofs.«01_k».proof.Proof.Gen.OprojRefIdeal.Read
public import proofs.«01_k».proof.Proof.Shared
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OprojVal

open Cert.OprojIdeal Cert.OprojIdeal.Gen

variable (m : (ℓ : Loc nD τ sig) → Buf (Elt Ideal) ℓ)

/-- Where the blocks of the windows lie. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The reference's two results. -/
abbrev refH (c : Dev nD) := Cert.OprojRefIdeal.Read.val_main_v4 (F := Ideal) (m ((c : Thread nD τ).loc main_arg0))
  (m ((c : Thread nD τ).loc main_arg1)) (m ((c : Thread nD τ).loc main_arg2))
abbrev refF (c : Dev nD) := Cert.OprojRefIdeal.Read.val_main_v19 (F := Ideal) (m ((c : Thread nD τ).loc main_arg0))
  (m ((c : Thread nD τ).loc main_arg1)) (m ((c : Thread nD τ).loc main_arg2)) (m ((c : Thread nD τ).loc main_arg3))

theorem pay1_apply (h : FVec Ideal S512x2048 .f32) (o : FVec Ideal S512x2048 .bf16) (w : FVec Ideal S2048x2048 .bf16) (r : Fin 512) (l : Fin 2048) :
    k0_pay1 (F := Ideal) h o w (ix2 r l) = h (ix2 r l) + ∑ k : Fin 2048, o (ix2 r k) * w (ix2 k l) := by
  pointwise [k0_pay1]

/-- The second stored block is the norm of the first. -/
theorem pay2_apply (h : FVec Ideal S512x2048 .f32) (o : FVec Ideal S512x2048 .bf16) (w : FVec Ideal S2048x2048 .bf16) (g : FVec Ideal S1x2048 .f32) (r : Fin 512) (l : Fin 2048) :
    k0_pay2 (F := Ideal) h o w g (ix2 r l) = Shr.rms (fun x => k0_pay1 (F := Ideal) h o w (ix2 r x)) (g (ix2 0 l)) l := by
  pointwise [k0_pay2, Shr.rms]

open Cert.OprojRefIdeal.Read in
theorem refH_apply (o : FVec Ideal Cert.OprojRefIdeal.S8192x2048 .bf16) (h : FVec Ideal Cert.OprojRefIdeal.S4x2048x2048 .f32) (w : FVec Ideal Cert.OprojRefIdeal.S2048x2048 .bf16) (r : Fin 8192) (l : Fin 2048) :
    val_main_v4 (F := Ideal) o h w (ix2 r l) = h (ix3 ⟨r.val / 2048, by omega⟩ ⟨r.val % 2048, by omega⟩ l) + ∑ k : Fin 2048, o (ix2 r k) * w (ix2 k l) := by
  pointwise [val_main_v0, val_main_v1, val_main_v2, val_main_v3, val_main_v4]

open Cert.OprojRefIdeal.Read in
theorem refF_apply (o : FVec Ideal Cert.OprojRefIdeal.S8192x2048 .bf16) (h : FVec Ideal Cert.OprojRefIdeal.S4x2048x2048 .f32) (w : FVec Ideal Cert.OprojRefIdeal.S2048x2048 .bf16) (g : FVec Ideal Cert.OprojRefIdeal.S1x2048 .f32) (r : Fin 8192) (l : Fin 2048) :
    val_main_v19 (F := Ideal) o h w g (ix2 r l) = Shr.rms (fun x => val_main_v4 (F := Ideal) o h w (ix2 r x)) (g (ix2 0 l)) l := by
  pointwise [val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1, Shr.rms]

/-- The flattened residual, read at an index. -/
theorem arr1 (c : Dev nD) (e : S8192x2048.Idx) (q : Fin 8192) (l : Fin 2048) (h0 : (e 0 : Nat) = q) (h1 : (e 1 : Nat) = l) :
    (V m c main_v0 : FVec Ideal S8192x2048 .f32) e
      = (m ((c : Thread nD τ).loc main_arg1) : FVec Ideal S4x2048x2048 .f32) (ix3 ⟨q.val / 2048, by omega⟩ ⟨q.val % 2048, by omega⟩ l) := by
  entry_read
  obtain rfl := Shr.eq_ix2 e q l h0 h1
  pointwise

/-- The norm's weight, read at an index. -/
theorem arr3 (c : Dev nD) (e : S1x2048.Idx) (l : Fin 2048) (h1 : (e 1 : Nat) = l) :
    (V m c main_v2 : FVec Ideal S1x2048 .f32) e = (m ((c : Thread nD τ).loc main_arg3) : FVec Ideal S1x2048 .f32) (ix2 0 l) := by
  entry_read
  obtain rfl := Shr.eq_ix2 e 0 l (by have := (e 0).isLt; simp at this; simpa using this) h1
  pointwise

/-- A row of the first stored block is a row of the reference's first result. -/
theorem row4 (c : Dev nD) (t : Fin cfg0.N) (r : Fin 512) (l : Fin 2048) (q : Fin 8192) (hq : q.val = 512 * t.val + r) :
    k0_pay1 (F := Ideal) (iblk m c 1 t) (iblk m c 0 t) (iblk m c 2 t) (ix2 r l) = refH m c (ix2 q l) := by
  refine (pay1_apply _ _ _ r l).trans ((refH_apply _ _ _ q l).trans ?_).symm
  refine (Ideal.add_congr ?_ (Fin.sum_fin_congr fun k => Ideal.mul_congr ?_ ?_)).symm
  · refine arr1 m c (((cfg0.win 1).blk t).view.emb (ix2 r l)) q l ?_ ?_
    · blk_simp [idx t]
      change _ = q.val
      omega
    · blk_simp [idx t]
  · blk_ext [iblk, V, idx t]
  · blk_ext [iblk, V, idx t]

/-- The first result array. -/
theorem final4 (c : Dev nD) : (dats m 0 c).arrAt 4 (cfgs 0).N = refH m c := by
  refine (dats m 0 c).arrAt_eq_of_covers 4 _ (by decide +kernel) fun t hf y => ?_
  blk_simp; rw [after0_4]; frame_out
  have ht : t.val < 16 := lt_of_lt_of_eq t.isLt N_0
  idx_vars y
  refine (row4 m c t y0 y1 ⟨512 * t.val + y0, by omega⟩ rfl).trans (congrArg (refH m c) (Shr.eq_ix2 _ _ _ ?_ ?_).symm)
  · blk_simp [idx t]
    change _ = 512 * t.val + (y0 : Nat)
    omega
  · blk_simp [idx t]

/-- The second result array. -/
theorem final5 (c : Dev nD) : (dats m 0 c).arrAt 5 (cfgs 0).N = refF m c := by
  refine (dats m 0 c).arrAt_eq_of_covers 5 _ (by decide +kernel) fun t hf y => ?_
  blk_simp; rw [after0_5]; frame_out
  have ht : t.val < 16 := lt_of_lt_of_eq t.isLt N_0
  idx_vars y
  refine (pay2_apply _ _ _ _ y0 y1).trans (Eq.trans ?_ (congrArg (refF m c)
    (Shr.eq_ix2 _ ⟨512 * t.val + y0, by omega⟩ y1 ?_ ?_).symm))
  · refine Eq.trans ?_ (refF_apply _ _ _ _ _ _).symm
    refine Shr.rms_congr (fun l => row4 m c t y0 l _ rfl) ?_ y1
    refine arr3 m c (((cfg0.win 3).blk t).view.emb (ix2 0 y1)) y1 ?_
    blk_simp [idx t]
  · blk_simp [idx t]
    change _ = 512 * t.val + (y0 : Nat)
    omega
  · blk_simp [idx t]

end Cert.OprojVal

end
-- ==== Proof.FfnUpValue.lean ====
/- The values of the first half of the feed-forward part: the gate through its sigmoid, times the up projection. -/
module

public import proofs.«01_k».proof.Proof.Gen.FfnUpIdeal.Frame
public import proofs.«01_k».proof.Proof.Gen.FfnUpRefIdeal.Read
public import proofs.«01_k».proof.Proof.Shared
public import proofs.«01_k».proof.Proof.Sigmoid
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnUpVal

open Cert.FfnUpIdeal Cert.FfnUpIdeal.Gen

variable (m : (ℓ : Loc nD τ sig) → Buf (Elt Ideal) ℓ)

/-- Where the blocks of the windows lie. -/
theorem idx : ∀ t : Fin cfg0.N, win0_0.index t = ![t.val % 4, 0] ∧ win0_1.index t = ![0, t.val / 4] ∧ win0_2.index t = ![0, t.val / 4]
    ∧ win0_3.index t = ![t.val % 4, t.val / 4] :=
  (by decide +kernel : ∀ t : Fin grid0.N, _)

/-- One entry of the gated product. -/
def gate (x : Fin 2048 → Ideal .f32) (g u : Fin 2048 → Ideal .f32) : Ideal .f32 :=
  (∑ k, x k * g k) * Ideal.logistic (∑ k, x k * g k) * ∑ k, x k * u k

theorem gate_congr {x x' g g' u u' : Fin 2048 → Ideal .f32} (ex : ∀ k, x k = x' k) (eg : ∀ k, g k = g' k) (eu : ∀ k, u k = u' k) :
    gate x g u = gate x' g' u' := by
  rw [show x = x' from funext ex, show g = g' from funext eg, show u = u' from funext eu]

open Cert.FfnUpRefIdeal.Read in
theorem ref7_apply (x : FVec Ideal Cert.FfnUpRefIdeal.S8192x2048 .bf16) (g u : FVec Ideal Cert.FfnUpRefIdeal.S1x2048x5632 .f32) (q : Fin 8192) (l : Fin 5632) :
    val_main_v7 (F := Ideal) x g u (ix2 q l)
      = gate (fun k => x (ix2 q k)) (fun k => g (ix3 0 k l)) (fun k => u (ix3 0 k l)) := by
  unfold gate Ideal.logistic
  pointwise [val_main_v0, val_main_v1, val_main_v2, val_main_call0_v0, val_main_call0_v1, val_main_call0_cst, val_main_call0_v2, val_main_call0_v3, val_main_call0_cst_0, val_main_call0_v4, val_main_call0_v5, val_main_v3, val_main_v4, val_main_v5, val_main_v6, val_main_v7]

/-- A block of the gated product, from whole blocks. -/
def big (X : FVec Ideal S2048x2048 .bf16) (G U : FVec Ideal S2048x512 .bf16) (r : Fin 2048) (l : Fin 512) : Ideal .bf16 :=
  gate (fun k => X (ix2 r k)) (fun k => G (ix2 k l)) (fun k => U (ix2 k l))

theorem piece0_apply (x : FVec Ideal S1024x2048 .bf16) (g u : FVec Ideal S2048x256 .bf16) (r : Fin 1024) (l : Fin 256) :
    k0_pay7 (F := Ideal) x g u (ix2 r l) = gate (fun k => x (ix2 r k)) (fun k => g (ix2 k l)) (fun k => u (ix2 k l)) := by
  unfold gate
  rw [← Sigm.sigmoid]
  pointwise [k0_pay7]
  rfl

/-- The tile stored at (1024, 256). -/
theorem piece0 (X : FVec Ideal S2048x2048 .bf16) (G U : FVec Ideal S2048x512 .bf16) (x : S1024x256.Idx)
    (y0 : Fin 2048) (y1 : Fin 512) (h0 : (y0 : Nat) = 1024 + (x 0 : Nat)) (h1 : (y1 : Nat) = 256 + (x 1 : Nat)) :
    k0_pay7 (F := Ideal) (View.ld (Val := Elt Ideal) (S := S2048x2048) (e' := .bf16) X (Rect.unit ![1024, 0] ![1024, 2048] inb_S2048x2048_S1024x2048_1024_0))
      (View.ld (Val := Elt Ideal) (S := S2048x512) (e' := .bf16) G (Rect.unit ![0, 256] ![2048, 256] inb_S2048x512_S2048x256_0_256))
      (View.ld (Val := Elt Ideal) (S := S2048x512) (e' := .bf16) U (Rect.unit ![0, 256] ![2048, 256] inb_S2048x512_S2048x256_0_256)) x = big X G U y0 y1 := by
  idx_vars x
  refine (piece0_apply _ _ _ x0 x1).trans (gate_congr (fun k => ?_) (fun k => ?_) (fun k => ?_))
  · exact Shr.ld2 (Val := Elt Ideal) (e := .bf16) X _ x0 k y0 k h0 (Nat.zero_add _).symm
  · exact Shr.ld2 (Val := Elt Ideal) (e := .bf16) G _ k x1 k y1 (Nat.zero_add _).symm h1
  · exact Shr.ld2 (Val := Elt Ideal) (e := .bf16) U _ k x1 k y1 (Nat.zero_add _).symm h1

theorem piece1_apply (x : FVec Ideal S1024x2048 .bf16) (g u : FVec Ideal S2048x256 .bf16) (r : Fin 1024) (l : Fin 256) :
    k0_pay6 (F := Ideal) x g u (ix2 r l) = gate (fun k => x (ix2 r k)) (fun k => g (ix2 k l)) (fun k => u (ix2 k l)) := by
  unfold gate
  rw [← Sigm.sigmoid]
  pointwise [k0_pay6]
  rfl

/-- The tile stored at (1024, 0). -/
theorem piece1 (X : FVec Ideal S2048x2048 .bf16) (G U : FVec Ideal S2048x512 .bf16) (x : S1024x256.Idx)
    (y0 : Fin 2048) (y1 : Fin 512) (h0 : (y0 : Nat) = 1024 + (x 0 : Nat)) (h1 : (y1 : Nat) = 0 + (x 1 : Nat)) :
    k0_pay6 (F := Ideal) (View.ld (Val := Elt Ideal) (S := S2048x2048) (e' := .bf16) X (Rect.unit ![1024, 0] ![1024, 2048] inb_S2048x2048_S1024x2048_1024_0))
      (View.ld (Val := Elt Ideal) (S := S2048x512) (e' := .bf16) G (Rect.unit ![0, 0] ![2048, 256] inb_S2048x512_S2048x256_0_0))
      (View.ld (Val := Elt Ideal) (S := S2048x512) (e' := .bf16) U (Rect.unit ![0, 0] ![2048, 256] inb_S2048x512_S2048x256_0_0)) x = big X G U y0 y1 := by
  idx_vars x
  refine (piece1_apply _ _ _ x0 x1).trans (gate_congr (fun k => ?_) (fun k => ?_) (fun k => ?_))
  · exact Shr.ld2 (Val := Elt Ideal) (e := .bf16) X _ x0 k y0 k h0 (Nat.zero_add _).symm
  · exact Shr.ld2 (Val := Elt Ideal) (e := .bf16) G _ k x1 k y1 (Nat.zero_add _).symm h1
  · exact Shr.ld2 (Val := Elt Ideal) (e := .bf16) U _ k x1 k y1 (Nat.zero_add _).symm h1

theorem piece2_apply (x : FVec Ideal S1024x2048 .bf16) (g u : FVec Ideal S2048x256 .bf16) (r : Fin 1024) (l : Fin 256) :
    k0_pay5 (F := Ideal) (k0_pay4 (F := Ideal) x g u) (ix2 r l) = gate (fun k => x (ix2 r k)) (fun k => g (ix2 k l)) (fun k => u (ix2 k l)) := by
  unfold gate
  rw [← Sigm.sigmoid]
  pointwise [k0_pay5, k0_pay4]
  rfl

/-- The tile stored at (0, 256). -/
theorem piece2 (X : FVec Ideal S2048x2048 .bf16) (G U : FVec Ideal S2048x512 .bf16) (x : S1024x256.Idx)
    (y0 : Fin 2048) (y1 : Fin 512) (h0 : (y0 : Nat) = 0 + (x 0 : Nat)) (h1 : (y1 : Nat) = 256 + (x 1 : Nat)) :
    k0_pay5 (F := Ideal) (k0_pay4 (F := Ideal) (View.ld (Val := Elt Ideal) (S := S2048x2048) (e' := .bf16) X (Rect.unit ![0, 0] ![1024, 2048] inb_S2048x2048_S1024x2048_0_0))
      (View.ld (Val := Elt Ideal) (S := S2048x512) (e' := .bf16) G (Rect.unit ![0, 256] ![2048, 256] inb_S2048x512_S2048x256_0_256))
      (View.ld (Val := Elt Ideal) (S := S2048x512) (e' := .bf16) U (Rect.unit ![0, 256] ![2048, 256] inb_S2048x512_S2048x256_0_256))) x = big X G U y0 y1 := by
  idx_vars x
  refine (piece2_apply _ _ _ x0 x1).trans (gate_congr (fun k => ?_) (fun k => ?_) (fun k => ?_))
  · exact Shr.ld2 (Val := Elt Ideal) (e := .bf16) X _ x0 k y0 k h0 (Nat.zero_add _).symm
  · exact Shr.ld2 (Val := Elt Ideal) (e := .bf16) G _ k x1 k y1 (Nat.zero_add _).symm h1
  · exact Shr.ld2 (Val := Elt Ideal) (e := .bf16) U _ k x1 k y1 (Nat.zero_add _).symm h1

theorem piece3_apply (x : FVec Ideal S1024x2048 .bf16) (g u : FVec Ideal S2048x256 .bf16) (r : Fin 1024) (l : Fin 256) :
    k0_pay3 (F := Ideal) x g u (ix2 r l) = gate (fun k => x (ix2 r k)) (fun k => g (ix2 k l)) (fun k => u (ix2 k l)) := by
  unfold gate
  rw [← Sigm.sigmoid]
  pointwise [k0_pay3]
  rfl

/-- The tile stored at (0, 0). -/
theorem piece3 (X : FVec Ideal S2048x2048 .bf16) (G U : FVec Ideal S2048x512 .bf16) (x : S1024x256.Idx)
    (y0 : Fin 2048) (y1 : Fin 512) (h0 : (y0 : Nat) = 0 + (x 0 : Nat)) (h1 : (y1 : Nat) = 0 + (x 1 : Nat)) :
    k0_pay3 (F := Ideal) (View.ld (Val := Elt Ideal) (S := S2048x2048) (e' := .bf16) X (Rect.unit ![0, 0] ![1024, 2048] inb_S2048x2048_S1024x2048_0_0))
      (View.ld (Val := Elt Ideal) (S := S2048x512) (e' := .bf16) G (Rect.unit ![0, 0] ![2048, 256] inb_S2048x512_S2048x256_0_0))
      (View.ld (Val := Elt Ideal) (S := S2048x512) (e' := .bf16) U (Rect.unit ![0, 0] ![2048, 256] inb_S2048x512_S2048x256_0_0)) x = big X G U y0 y1 := by
  idx_vars x
  refine (piece3_apply _ _ _ x0 x1).trans (gate_congr (fun k => ?_) (fun k => ?_) (fun k => ?_))
  · exact Shr.ld2 (Val := Elt Ideal) (e := .bf16) X _ x0 k y0 k h0 (Nat.zero_add _).symm
  · exact Shr.ld2 (Val := Elt Ideal) (e := .bf16) G _ k x1 k y1 (Nat.zero_add _).symm h1
  · exact Shr.ld2 (Val := Elt Ideal) (e := .bf16) U _ k x1 k y1 (Nat.zero_add _).symm h1

theorem point_A (c : Dev nD) (t : Fin cfg0.N) (h0 : t.val % 4 = 0) (y) :
    (outsAt0 m c t.val t.isLt).1 y = big (iblk m c 0 t) (k0_pay1 (F := Ideal) (iblk m c 1 t)) (k0_pay2 (F := Ideal) (iblk m c 2 t)) (y 0) (y 1) := by
  rw [outsAt0_A m c t h0]
  frame_out
  canon_tiles x h
  all_goals simp (disch := decide) only [View.readCov_fill]
  case piece0 => exact piece0 _ _ _ _ _ _ h0 h1
  case piece1 => exact piece1 _ _ _ _ _ _ h0 (by omega)
  case piece2 => exact piece2 _ _ _ _ _ _ (by omega) h1
  case piece3 => exact piece3 _ _ _ _ _ _ (by omega) (by omega)

/-- The arrays of weights, read at an index. -/
theorem arr1 (c : Dev nD) (e : S2048x5632.Idx) (k : Fin 2048) (l : Fin 5632) (h0 : (e 0 : Nat) = k) (h1 : (e 1 : Nat) = l) :
    (V m c main_v0 : FVec Ideal S2048x5632 .f32) e = (m ((c : Thread nD τ).loc main_arg1) : FVec Ideal S1x2048x5632 .f32) (ix3 0 k l) := by
  entry_read
  obtain rfl := Shr.eq_ix2 e k l h0 h1
  pointwise

theorem arr2 (c : Dev nD) (e : S2048x5632.Idx) (k : Fin 2048) (l : Fin 5632) (h0 : (e 0 : Nat) = k) (h1 : (e 1 : Nat) = l) :
    (V m c main_v1 : FVec Ideal S2048x5632 .f32) e = (m ((c : Thread nD τ).loc main_arg2) : FVec Ideal S1x2048x5632 .f32) (ix3 0 k l) := by
  entry_read
  obtain rfl := Shr.eq_ix2 e k l h0 h1
  pointwise

/-- The blocks of weights, read at an index. -/
theorem blk1 (c : Dev nD) (t : Fin cfg0.N) (k : Fin 2048) (r : Fin 512) (l : Fin 5632) (hl : (l : Nat) = 512 * (t.val / 4) + r) :
    (show FVec Ideal S2048x512 .f32 from iblk m c 1 t) (ix2 k r) = (m ((c : Thread nD τ).loc main_arg1) : FVec Ideal S1x2048x5632 .f32) (ix3 0 k l) := by
  refine arr1 m c (((cfg0.win 1).blk t).view.emb (ix2 k r)) k l (by blk_simp [idx t]) ?_
  blk_simp [idx t]
  change _ = l.val
  omega

theorem blk2 (c : Dev nD) (t : Fin cfg0.N) (k : Fin 2048) (r : Fin 512) (l : Fin 5632) (hl : (l : Nat) = 512 * (t.val / 4) + r) :
    (show FVec Ideal S2048x512 .f32 from iblk m c 2 t) (ix2 k r) = (m ((c : Thread nD τ).loc main_arg2) : FVec Ideal S1x2048x5632 .f32) (ix3 0 k l) := by
  refine arr2 m c (((cfg0.win 2).blk t).view.emb (ix2 k r)) k l (by blk_simp [idx t]) ?_
  blk_simp [idx t]
  change _ = l.val
  omega

theorem prev1 (c : Dev nD) (t t' : Fin cfg0.N) (h : t'.val / 4 = t.val / 4) :
    (show FVec Ideal S2048x512 .f32 from iblk m c 1 t') = (show FVec Ideal S2048x512 .f32 from iblk m c 1 t) := by
  have ht : t.val < 44 := lt_of_lt_of_eq t.isLt N_0
  funext y
  idx_vars y
  exact (blk1 m c t' y0 y1 ⟨512 * (t.val / 4) + y1, by omega⟩ (by rw [h])).trans (blk1 m c t y0 y1 _ rfl).symm

theorem prev2 (c : Dev nD) (t t' : Fin cfg0.N) (h : t'.val / 4 = t.val / 4) :
    (show FVec Ideal S2048x512 .f32 from iblk m c 2 t') = (show FVec Ideal S2048x512 .f32 from iblk m c 2 t) := by
  have ht : t.val < 44 := lt_of_lt_of_eq t.isLt N_0
  funext y
  idx_vars y
  exact (blk2 m c t' y0 y1 ⟨512 * (t.val / 4) + y1, by omega⟩ (by rw [h])).trans (blk2 m c t y0 y1 _ rfl).symm

/-- The two scratch buffers hold the rounded weights after every point. -/
theorem scr1 (c : Dev nD) : ∀ (n : Nat) (h : n < cfg0.N), (outsAt0 m c n h).2.1 = k0_pay1 (F := Ideal) (iblk m c 1 ⟨n, h⟩) := by
  intro n
  induction n with
  | zero =>
    intro h
    have := outsAt0_A m c ⟨0, h⟩ rfl
    rw [this]
    frame_out
  | succ n ih =>
    intro h
    by_cases h4 : (n + 1) % 4 = 0
    · have := outsAt0_A m c ⟨n + 1, h⟩ h4
      rw [this]
      frame_out
    · have := outsAt0_B m c ⟨n + 1, h⟩ h4
      rw [this]
      frame_out
      refine (ih _).trans (congrArg _ (prev1 m c _ _ ?_))
      show n / 4 = (n + 1) / 4
      omega

theorem scr2 (c : Dev nD) : ∀ (n : Nat) (h : n < cfg0.N), (outsAt0 m c n h).2.2 = k0_pay2 (F := Ideal) (iblk m c 2 ⟨n, h⟩) := by
  intro n
  induction n with
  | zero =>
    intro h
    have := outsAt0_A m c ⟨0, h⟩ rfl
    rw [this]
    frame_out
  | succ n ih =>
    intro h
    by_cases h4 : (n + 1) % 4 = 0
    · have := outsAt0_A m c ⟨n + 1, h⟩ h4
      rw [this]
      frame_out
    · have := outsAt0_B m c ⟨n + 1, h⟩ h4
      rw [this]
      frame_out
      refine (ih _).trans (congrArg _ (prev2 m c _ _ ?_))
      show n / 4 = (n + 1) / 4
      omega

theorem point_B (c : Dev nD) (t : Fin cfg0.N) (h0 : ¬ t.val % 4 = 0) (y) :
    (outsAt0 m c t.val t.isLt).1 y = big (iblk m c 0 t) (k0_pay1 (F := Ideal) (iblk m c 1 t)) (k0_pay2 (F := Ideal) (iblk m c 2 t)) (y 0) (y 1) := by
  have e1 : (View.read (Elt Ideal) (View.whole cc0_scratch0) ((Memref.isWhole_whole cc0_scratch0).unread (outsAt0 m c (t.val - 1) (Nat.lt_of_le_of_lt (Nat.sub_le _ _) t.isLt)).2.1))
      = k0_pay1 (F := Ideal) (iblk m c 1 t) := by
    refine ((Memref.isWhole_whole cc0_scratch0).read_unread _).trans ((scr1 m c _ _).trans (congrArg _ (prev1 m c _ _ ?_)))
    show (t.val - 1) / 4 = t.val / 4
    omega
  have e2 : (View.read (Elt Ideal) (View.whole cc0_scratch1) ((Memref.isWhole_whole cc0_scratch1).unread (outsAt0 m c (t.val - 1) (Nat.lt_of_le_of_lt (Nat.sub_le _ _) t.isLt)).2.2))
      = k0_pay2 (F := Ideal) (iblk m c 2 t) := by
    refine ((Memref.isWhole_whole cc0_scratch1).read_unread _).trans ((scr2 m c _ _).trans (congrArg _ (prev2 m c _ _ ?_)))
    show (t.val - 1) / 4 = t.val / 4
    omega
  rw [outsAt0_B m c t h0]
  frame_out
  rw [e1, e2]
  clear e1 e2
  canon_tiles x h
  case piece0 => exact piece0 _ _ _ _ _ _ h0 h1
  case piece1 => exact piece1 _ _ _ _ _ _ h0 (by omega)
  case piece2 => exact piece2 _ _ _ _ _ _ (by omega) h1
  case piece3 => exact piece3 _ _ _ _ _ _ (by omega) (by omega)

/-- The reference's result. -/
abbrev ref (c : Dev nD) := Cert.FfnUpRefIdeal.Read.val_main_v7 (F := Ideal) (m ((c : Thread nD τ).loc main_arg0))
  (m ((c : Thread nD τ).loc main_arg1)) (m ((c : Thread nD τ).loc main_arg2))

/-- The result array. -/
theorem final3 (c : Dev nD) : (dats m 0 c).arrAt 3 (cfgs 0).N = ref m c := by
  refine (dats m 0 c).arrAt_eq_of_covers 3 _ (by decide +kernel) fun t hf y => ?_
  blk_simp; rw [after0_3]
  have ht : t.val < 44 := lt_of_lt_of_eq t.isLt N_0
  refine Eq.trans (b := big (iblk m c 0 t) (k0_pay1 (F := Ideal) (iblk m c 1 t)) (k0_pay2 (F := Ideal) (iblk m c 2 t)) (y 0) (y 1)) ?_ ?_
  · by_cases h : t.val % 4 = 0
    · exact point_A m c t h y
    · exact point_B m c t h y
  · idx_vars y
    refine Eq.trans ?_ (congrArg (ref m c) (Shr.eq_ix2 _ ⟨2048 * (t.val % 4) + y0, by omega⟩ ⟨512 * (t.val / 4) + y1, by omega⟩ ?_ ?_).symm)
    · refine Eq.trans ?_ (ref7_apply _ _ _ _ _).symm
      refine gate_congr (fun k => ?_) (fun k => ?_) (fun k => ?_)
      · blk_ext [iblk, V, idx t]
      · refine Eq.trans ?_ (blk1 m c t k y1 _ rfl)
        pointwise [k0_pay1]
      · refine Eq.trans ?_ (blk2 m c t k y1 _ rfl)
        pointwise [k0_pay2]
    · blk_simp [idx t]
      change _ = 2048 * (t.val % 4) + (y0 : Nat)
      omega
    · blk_simp [idx t]
      change _ = 512 * (t.val / 4) + (y1 : Nat)
      omega

end Cert.FfnUpVal

end
-- ==== Proof.PleValue.lean ====
/- The values of the call that adds the gated projection of the per layer embedding and takes the last norm. -/
module

public import proofs.«01_k».proof.Proof.Gen.PleIdeal.Frame
public import proofs.«01_k».proof.Proof.Gen.PleRefIdeal.Read
public import proofs.«01_k».proof.Proof.Shared
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.PleVal

open Cert.PleIdeal Cert.PleIdeal.Gen

variable (m : (ℓ : Loc nD τ sig) → Buf (Elt Ideal) ℓ)

/-- Where the blocks of the windows lie. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- One entry of the gated sum. -/
def gated (h : Fin 2048 → Ideal .f32) (g : Fin 2048 → Ideal .f32) (w : Fin 2048 → Ideal .f32) (p : Fin 256 → Ideal .f32) (s : Fin 256 → Ideal .f32) (l : Fin 2048) : Ideal .f32 :=
  h l + Ideal.logistic (∑ k, Shr.rms h (g k) k * w k) * ∑ k, p k * s k

theorem gated_congr {h h' : Fin 2048 → Ideal .f32} {g g' : Fin 2048 → Ideal .f32} {w w' : Fin 2048 → Ideal .f32} {p p' : Fin 256 → Ideal .f32} {s s' : Fin 256 → Ideal .f32}
    (eh : ∀ l, h l = h' l) (eg : ∀ l, g l = g' l) (ew : ∀ l, w l = w' l) (ep : ∀ l, p l = p' l) (es : ∀ l, s l = s' l) (l : Fin 2048) :
    gated h g w p s l = gated h' g' w' p' s' l := by
  rw [show h = h' from funext eh, show g = g' from funext eg, show w = w' from funext ew, show p = p' from funext ep, show s = s' from funext es]

theorem pay1_apply (h : FVec Ideal S512x2048 .f32) (g : FVec Ideal S1x2048 .f32) (r : Fin 512) (l : Fin 2048) :
    k0_pay1 (F := Ideal) h g (ix2 r l) = Shr.rms (fun x => h (ix2 r x)) (g (ix2 0 l)) l := by
  pointwise [k0_pay1, Shr.rms]

theorem pay3_apply (h : FVec Ideal S512x2048 .f32) (g : FVec Ideal S1x2048 .f32) (w : FVec Ideal S2048x2048 .bf16) (p : FVec Ideal S512x256 .f32) (s : FVec Ideal S256x2048 .f32) (r : Fin 512) (l : Fin 2048) :
    k0_pay3 (F := Ideal) h g w p (k0_pay2 (F := Ideal) s) (ix2 r l)
      = gated (fun x => h (ix2 r x)) (fun x => g (ix2 0 x)) (fun x => w (ix2 x l)) (fun k => p (ix2 r k)) (fun k => s (ix2 k l)) l := by
  unfold gated
  rw [← Sigm.sigmoid]
  pointwise [k0_pay3, k0_pay2, Shr.rms]
  rfl

open Cert.PleRefIdeal.Read in
theorem ref27_apply (h : FVec Ideal Cert.PleRefIdeal.S8192x2048 .f32) (p : FVec Ideal Cert.PleRefIdeal.S1x4x2048x256 .f32) (g : FVec Ideal Cert.PleRefIdeal.S1x2048 .f32)
    (w : FVec Ideal Cert.PleRefIdeal.S2048x2048 .bf16) (s : FVec Ideal Cert.PleRefIdeal.S1x256x2048 .f32) (q : Fin 8192) (l : Fin 2048) :
    val_main_v27 (F := Ideal) h p g w s (ix2 q l)
      = gated (fun x => h (ix2 q x)) (fun x => g (ix2 0 x)) (fun x => w (ix2 x l))
        (fun k => p (ix4 0 ⟨q.val / 2048, by omega⟩ ⟨q.val % 2048, by omega⟩ k)) (fun k => s (ix3 0 k l)) l := by
  unfold gated Ideal.logistic
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, val_main_cst_3, Shr.rms]

open Cert.PleRefIdeal.Read in
theorem ref40_apply (h : FVec Ideal Cert.PleRefIdeal.S8192x2048 .f32) (p : FVec Ideal Cert.PleRefIdeal.S1x4x2048x256 .f32) (g : FVec Ideal Cert.PleRefIdeal.S1x2048 .f32)
    (gf : FVec Ideal Cert.PleRefIdeal.S2048 .f32)
    (w : FVec Ideal Cert.PleRefIdeal.S2048x2048 .bf16) (s : FVec Ideal Cert.PleRefIdeal.S1x256x2048 .f32) (q : Fin 8192) (l : Fin 2048) :
    val_main_v40 (F := Ideal) h p g gf w s (ix2 q l)
      = Shr.rms (fun x => val_main_v27 (F := Ideal) h p g w s (ix2 q x)) (gf (ix1 l)) l := by
  pointwise [val_main_v28, val_main_v29, val_main_v30, val_main_v31, val_main_v32, val_main_v33, val_main_v34, val_main_v35, val_main_v36, val_main_v37, val_main_v38, val_main_v39, val_main_v40, val_main_cst_4, val_main_cst_5, val_main_cst_6, Shr.rms]

/-- The arrays that the host prepares, read at an index. -/
theorem arr1 (c : Dev nD) (e : S8192x256.Idx) (q : Fin 8192) (k : Fin 256) (h0 : (e 0 : Nat) = q) (h1 : (e 1 : Nat) = k) :
    (V m c main_v1 : FVec Ideal S8192x256 .f32) e
      = (m ((c : Thread nD τ).loc main_arg1) : FVec Ideal S1x4x2048x256 .f32) (ix4 0 ⟨q.val / 2048, by omega⟩ ⟨q.val % 2048, by omega⟩ k) := by
  entry_read
  obtain rfl := Shr.eq_ix2 e q k h0 h1
  pointwise

theorem arr2 (c : Dev nD) (e : S1x2048.Idx) (l : Fin 2048) (h1 : (e 1 : Nat) = l) :
    (V m c main_v3 : FVec Ideal S1x2048 .f32) e = (m ((c : Thread nD τ).loc main_arg2) : FVec Ideal S1x2048 .f32) (ix2 0 l) := by
  entry_read
  obtain rfl := Shr.eq_ix2 e 0 l (by have := (e 0).isLt; simp at this; simpa using this) h1
  pointwise

theorem arr3 (c : Dev nD) (e : S1x2048.Idx) (l : Fin 2048) (h1 : (e 1 : Nat) = l) :
    (V m c main_v4 : FVec Ideal S1x2048 .f32) e = (m ((c : Thread nD τ).loc main_arg3) : FVec Ideal S2048 .f32) (ix1 l) := by
  entry_read
  obtain rfl := Shr.eq_ix2 e 0 l (by have := (e 0).isLt; simp at this; simpa using this) h1
  pointwise

theorem arr5 (c : Dev nD) (e : S256x2048.Idx) (k : Fin 256) (l : Fin 2048) (h0 : (e 0 : Nat) = k) (h1 : (e 1 : Nat) = l) :
    (V m c main_v5 : FVec Ideal S256x2048 .f32) e = (m ((c : Thread nD τ).loc main_arg5) : FVec Ideal S1x256x2048 .f32) (ix3 0 k l) := by
  entry_read
  obtain rfl := Shr.eq_ix2 e k l h0 h1
  pointwise

/-- The block of the projection's weights is the same at every point. -/
theorem blk5_congr (c : Dev nD) (t t' : Fin cfg0.N) :
    (show FVec Ideal S256x2048 .f32 from iblk m c 5 t') = (show FVec Ideal S256x2048 .f32 from iblk m c 5 t) := by
  funext y
  idx_vars y
  refine (arr5 m c (((cfg0.win 5).blk t').view.emb (ix2 y0 y1)) y0 y1 ?_ ?_).trans
    (arr5 m c (((cfg0.win 5).blk t).view.emb (ix2 y0 y1)) y0 y1 ?_ ?_).symm
  · blk_simp [idx t']
  · blk_simp [idx t']
  · blk_simp [idx t]
  · blk_simp [idx t]

/-- The scratch buffer holds the rounded weights after every point. -/
theorem scr (c : Dev nD) : ∀ (n : Nat) (h : n < cfg0.N), (outsAt0 m c n h).2 = k0_pay2 (F := Ideal) (iblk m c 5 ⟨n, h⟩) := by
  intro n
  induction n with
  | zero =>
    intro h
    have := outsAt0_A m c ⟨0, h⟩ rfl
    rw [this]
    frame_out
  | succ n ih =>
    intro h
    by_cases h4 : (n + 1) % 16 = 0
    · have := outsAt0_A m c ⟨n + 1, h⟩ h4
      rw [this]
      frame_out
    · have := outsAt0_B m c ⟨n + 1, h⟩ h4
      rw [this]
      frame_out
      exact (ih _).trans (congrArg _ (blk5_congr m c _ _))

/-- The reference's result. -/
abbrev ref (c : Dev nD) := Cert.PleRefIdeal.Read.val_main_v40 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5))

/-- What a point stores is the reference's block. -/
theorem point (c : Dev nD) (t : Fin cfg0.N) (y : S512x2048.Idx) :
    k0_pay1 (F := Ideal) (k0_pay3 (F := Ideal) (iblk m c 0 t) (iblk m c 2 t) (iblk m c 4 t) (iblk m c 1 t) (k0_pay2 (F := Ideal) (iblk m c 5 t))) (iblk m c 3 t) y
      = ref m c (((cfg0.win 6).blk t).view.emb y) := by
  have ht : t.val < 16 := lt_of_lt_of_eq t.isLt N_0
  idx_vars y
  refine (pay1_apply _ _ y0 y1).trans (Eq.trans ?_ (congrArg (ref m c) (Shr.eq_ix2 _ ⟨512 * t.val + y0, by omega⟩ y1 ?_ ?_).symm))
  · refine Eq.trans ?_ (ref40_apply _ _ _ _ _ _ _ _).symm
    refine Shr.rms_congr (fun l => ?_) (arr3 m c (((cfg0.win 3).blk t).view.emb (ix2 0 y1)) y1 (by blk_simp [idx t])) y1
    refine (pay3_apply _ _ _ _ _ y0 l).trans (Eq.trans ?_ (ref27_apply _ _ _ _ _ _ l).symm)
    refine gated_congr (fun x => ?_) (fun x => ?_) (fun x => ?_) (fun k => ?_) (fun k => ?_) l
    · blk_ext [iblk, V, idx t]
    · exact arr2 m c (((cfg0.win 2).blk t).view.emb (ix2 0 x)) x (by blk_simp [idx t])
    · blk_ext [iblk, V, idx t]
    · refine arr1 m c (((cfg0.win 1).blk t).view.emb (ix2 y0 k)) _ k ?_ (by blk_simp [idx t])
      blk_simp [idx t]
      change _ = 512 * t.val + (y0 : Nat)
      omega
    · exact arr5 m c (((cfg0.win 5).blk t).view.emb (ix2 k l)) k l (by blk_simp [idx t]) (by blk_simp [idx t])
  · blk_simp [idx t]
    change _ = 512 * t.val + (y0 : Nat)
    omega
  · blk_simp [idx t]

/-- The result array. -/
theorem final6 (c : Dev nD) : (dats m 0 c).arrAt 6 (cfgs 0).N = ref m c := by
  refine (dats m 0 c).arrAt_eq_of_covers 6 _ (by decide +kernel) fun t hf y => ?_
  blk_simp; rw [after0_6]
  refine Eq.trans (congrFun (?_ : _ = k0_pay1 (F := Ideal) (k0_pay3 (F := Ideal) (iblk m c 0 t) (iblk m c 2 t) (iblk m c 4 t) (iblk m c 1 t) (k0_pay2 (F := Ideal) (iblk m c 5 t))) (iblk m c 3 t)) y) (point m c t y)
  by_cases h : t.val % 16 = 0
  · rw [outsAt0_A m c t h]; frame_out
  · rw [outsAt0_B m c t h]; frame_out
    rw [scr m c (t.val - 1) (Nat.lt_of_le_of_lt (Nat.sub_le _ _) t.isLt)]
    refine congrArg (fun z => k0_pay1 (F := Ideal) (k0_pay3 (F := Ideal) (iblk m c 0 t) (iblk m c 2 t) (iblk m c 4 t) (iblk m c 1 t) z) (iblk m c 3 t)) ?_
    exact ((Memref.isWhole_whole cc0_scratch0).read_unread _).trans (congrArg _ (blk5_congr m c _ _))

end Cert.PleVal

end
-- ==== Proof.FfnDownIdealFrame.lean ====
module

public import proofs.«01_k».proof.Proof.Gen.FfnDownIdeal.Frame
public import proofs.«01_k».proof.Proof.Gen.FfnDownIdeal.Skeleton
public import Idealize.ShloMosaic.Lib.Pipeline.ReadBack
public import Idealize.ShloMosaic.Lib.Pipeline.ValueKit.Geometry

@[expose] public section

set_option maxRecDepth 16384

noncomputable section

namespace Cert.FfnDownIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnDownIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands the pipeline does not stage -/

/-- The weight in its launch memory, the rounded column block the products read, the block as it was copied. -/
abbrev wM : Memref sig .tc .hbm S5632x2048 .f32 := Memref.whole main_v0
abbrev bM : Memref sig .tc .vmem S5632x1024 .bf16 := Memref.whole cc0_scratch0
abbrev fM : Memref sig .tc .vmem S5632x1024 .f32 := Memref.whole cc0_scratch1

/-- The column block of the weight at offsets `o`. -/
abbrev colM (o : Fin 2 → ℕ) (h : ∀ a, o a + S5632x1024.size a ≤ S5632x2048.size a) : Memref sig .tc .hbm S5632x1024 .f32 :=
  wM.slice (Rect.unit (s := S5632x2048) o S5632x1024.size h) (fun _ => rfl)

abbrev WBuf (c : Dev nD) : Type := Buf (Elt F) (wM.view.loc (c : Thread nD τ))
abbrev FBuf (c : Dev nD) : Type := Buf (Elt F) (fM.view.loc (c : Thread nD τ))

/-- That column block held by its own elements. -/
abbrev colPt (c : Dev nD) (o : Fin 2 → ℕ) (h : ∀ a, o a + S5632x1024.size a ≤ S5632x2048.size a) (f : WBuf (F := F) c) : sProp 𝕄 :=
  (colM o h).view.loc (c : Thread nD τ) ↦[(colM o h).view.set]{fullShare} f
/-- The buffer copies land in, held whole. -/
abbrev slotPt (c : Dev nD) (d : FBuf (F := F) c) : sProp 𝕄 := fM.view.loc (c : Thread nD τ) ↦[fM.view.set]{fullShare} d

/-- A column block as it is read. -/
abbrev colRead (c : Dev nD) (o : Fin 2 → ℕ) (h : ∀ a, o a + S5632x1024.size a ≤ S5632x2048.size a) (f : WBuf (F := F) c) :
    S5632x1024.Idx → Elt F .f32 := (colM o h).view.read (Elt F) f
/-- The buffer after a copy has landed. -/
abbrev landed (c : Dev nD) (o : Fin 2 → ℕ) (h : ∀ a, o a + S5632x1024.size a ≤ S5632x2048.size a) (f : WBuf (F := F) c) (d : FBuf (F := F) c) :
    FBuf (F := F) c :=
  fM.view.writes (Elt F) d [⟨Rect.whole S5632x1024, ReadAs.same.apply (colRead c o h f)⟩]
/-- The copy of a column block in flight. -/
abbrev flightPt (c : Dev nD) (o : Fin 2 → ℕ) (h : ∀ a, o a + S5632x1024.size a ≤ S5632x2048.size a) (f : WBuf (F := F) c) (d : FBuf (F := F) c) : sProp 𝕄 :=
  Transfers.Flight (countersEmb (U := Pipeline.UD sig nD τ)) (c : Thread nD τ) (.dma 6) () 720896
    iprop(slotPt c (landed c o h f d) ∗ colPt c o h f)

/-- The whole staging rectangle of the rounded block and of the output. -/
abbrev rB : Rect S5632x1024 := Rect.unit (s := S5632x1024) ![0, 0] S5632x1024.size inb_S5632x1024_S5632x1024_0_0
abbrev rO : Rect S512x1024 := Rect.unit (s := S512x1024) ![0, 0] S512x1024.size inb_S512x1024_S512x1024_0_0
abbrev rA : Rect S512x5632 := Rect.unit (s := S512x5632) ![0, 0] S512x5632.size inb_S512x5632_S512x5632_0_0

/-! ## The conditions -/

abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcond1 : ∀ t : Fin cfg0.N, cond1 (grid0.coords t) ↔ t.val = 0 := by decide +kernel
theorem hcond2 : ∀ t : Fin cfg0.N, k0_cond2 (grid0.coords t) = 1#1 ↔ t.val % 16 = 0 := by decide +kernel
theorem hcond3 : ∀ t : Fin cfg0.N, k0_cond3 (grid0.coords t) = 1#1 ↔ t.val = 0 := by decide +kernel

/-! ## The body at each kind of point -/

/-- What a point writes from the rounded block `w`. -/
def outOf (x0 : Vec F S512x5632 .bf16) (x1 : Vec F S512x1024 .f32) (w : Vec F S5632x1024 .bf16) : Vec F S512x1024 .f32 :=
  View.canon [⟨rO, k0_pay2 (View.ld x1 rO) (View.ld x0 rA) (View.ld w rB)⟩]
/-- The rounded block from a column block. -/
def roundOf (x : S5632x1024.Idx → Elt F .f32) : Vec F S5632x1024 .bf16 :=
  View.canon [⟨rB, k0_pay1 (View.ld (Val := Elt F) (e' := .f32) x rB)⟩]

theorem coverO (p0 : Vec F S512x1024 .f32) (y : S512x1024.Idx) : ∃ pc ∈ ([⟨rO, p0⟩] : List (View.Piece (Elt F) S512x1024 .f32)), y ∈ pc.1.set :=
  View.cover_of_tiled [⟨rO, p0⟩] S512x1024.size (by rfl) y
theorem coverB (p0 : Vec F S5632x1024 .bf16) (y : S5632x1024.Idx) : ∃ pc ∈ ([⟨rB, p0⟩] : List (View.Piece (Elt F) S5632x1024 .bf16)), y ∈ pc.1.set :=
  View.cover_of_tiled [⟨rB, p0⟩] S5632x1024.size (by rfl) y

theorem canon_whole (Z : S5632x1024.Idx → Elt F .f32) (L : List (View.Piece (Elt F) S5632x1024 .f32)) :
    View.canon (⟨Rect.whole S5632x1024, Z⟩ :: L) = Z :=
  View.canon_cons_unit_lit (off := fun _ => 0) _ Z L (fun _ => rfl)

section Runs

variable (c : Dev nD) (i : grid0.Coords) (arg2 : Memref sig .tc .vmem S512x5632 .bf16) (harg2 : arg2.IsWhole)
  (arg3 : Memref sig .tc .vmem S512x1024 .f32) (harg3 : arg3.IsWhole) (arg5 : Memref sig .tc .vmem S512x1024 .f32) (harg5 : arg5.IsWhole)
  (x0 : Vec F S512x5632 .bf16) (x1 : Vec F S512x1024 .f32) (f : WBuf (F := F) c)

set_option maxHeartbeats 1000000 in
/-- A point that starts and awaits nothing. -/
theorem runC (hc1 : ¬cond1 i) (hc2 : ¬k0_cond2 i = 1#1) (hc3 : ¬k0_cond3 i = 1#1) (w : Vec F S5632x1024 .bf16) (K : PUnit → sProp 𝕄) :
    iprop(owns (c : Thread nD τ) arg2 fullShare x0 ∗ owns (c : Thread nD τ) arg3 fullShare x1 ∗ (∃ d, owns (c : Thread nD τ) arg5 fullShare d)
        ∗ owns (c : Thread nD τ) bM fullShare w
        ∗ (iprop(owns (c : Thread nD τ) arg2 fullShare x0 ∗ owns (c : Thread nD τ) arg3 fullShare x1 ∗ owns (c : Thread nD τ) arg5 fullShare (outOf x0 x1 w)
            ∗ owns (c : Thread nD τ) bM fullShare w) -∗ K ⟨⟩))
      ⊢ wp frame (wpE (defs₀ (F := F)) Variants.none c none) Set.univ
          (cc0_ffn_down i arg2 harg2 arg3 harg3 wM (Memref.isWhole_whole _) arg5 harg5 bM (Memref.isWhole_whole _) fM (Memref.isWhole_whole _) cc0_scratch2) K := by
  simp only [cc0_ffn_down_eq_skeleton]; unfold cc0_ffn_down_skel
  unfold owns
  iintro ⟨⟨%f0, %hf0, H0⟩, ⟨%f1, %hf1, H1⟩, ⟨%d2, %f2, -, H2⟩, ⟨%fb, %hfb, HB⟩, Hk⟩
  subst hf0 hf1 hfb
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  iexists fb; isplitr; · ipureintro; rfl
  iexact HB

set_option maxHeartbeats 1000000 in
/-- The first point of the second half: the block in flight has landed and is rounded. -/
theorem runB (hc1 : ¬cond1 i) (hc2 : k0_cond2 i = 1#1) (hc3 : ¬k0_cond3 i = 1#1) (o : Fin 2 → ℕ) (h : ∀ a, o a + S5632x1024.size a ≤ S5632x2048.size a)
    (d : FBuf (F := F) c) (W : Waits sig Unit) (K : PUnit → sProp 𝕄) :
    iprop(owns (c : Thread nD τ) arg2 fullShare x0 ∗ owns (c : Thread nD τ) arg3 fullShare x1 ∗ (∃ d, owns (c : Thread nD τ) arg5 fullShare d)
        ∗ (∃ d, owns (c : Thread nD τ) bM fullShare d) ∗ flightPt c o h f d ∗ owes (c : Thread nD τ) 0 W
        ∗ (iprop(owns (c : Thread nD τ) arg2 fullShare x0 ∗ owns (c : Thread nD τ) arg3 fullShare x1
            ∗ owns (c : Thread nD τ) arg5 fullShare (outOf x0 x1 (roundOf (colRead c o h f)))
            ∗ owns (c : Thread nD τ) bM fullShare (roundOf (colRead c o h f))
            ∗ (∃ d, slotPt c d) ∗ colPt c o h f ∗ semVal ((c : Thread nD τ), SemLoc.dma 6) 0 ∗ (∃ W', owes (c : Thread nD τ) 0 W')) -∗ K ⟨⟩))
      ⊢ wp frame (wpE (defs₀ (F := F)) Variants.none c none) Set.univ
          (cc0_ffn_down i arg2 harg2 arg3 harg3 wM (Memref.isWhole_whole _) arg5 harg5 bM (Memref.isWhole_whole _) fM (Memref.isWhole_whole _) cc0_scratch2) K := by
  simp only [cc0_ffn_down_eq_skeleton]; unfold cc0_ffn_down_skel
  unfold owns
  iintro ⟨⟨%f0, %hf0, H0⟩, ⟨%f1, %hf1, H1⟩, ⟨%d2, %f2, -, H2⟩, ⟨%db, %fb, -, HB⟩, HF, HW, Hk⟩
  subst hf0 hf1
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (coverO _)).trans ?_
    unfold outOf roundOf
    sl_unfold_run_names
    rw [View.readCov_eq_canon', View.readCov_eq_canon', canon_whole]
    rfl
  isplitl [HB]
  · iexists _; isplitr
    swap; · iexact HB
    ipureintro
    sl_unfold_run_names
    refine (View.read_writes_eq_canon _ _ _ (coverB _)).trans ?_
    unfold roundOf
    rw [View.readCov_eq_canon', canon_whole]
  isplitl [HF_dst]; · iexists _; iexact HF_dst
  isplitl [HF_src]; · iexact HF_src
  isplitl [HF]; · iexact HF
  iexists _; iexact HW

set_option maxHeartbeats 1000000 in
/-- The first point: the first block is copied, awaited and rounded, and the copy of the second is started. -/
theorem runA (hc1 : cond1 i) (hc2 : k0_cond2 i = 1#1) (hc3 : k0_cond3 i = 1#1) (W : Waits sig Unit) (K : PUnit → sProp 𝕄) :
    iprop(owns (c : Thread nD τ) arg2 fullShare x0 ∗ owns (c : Thread nD τ) arg3 fullShare x1 ∗ (∃ d, owns (c : Thread nD τ) arg5 fullShare d)
        ∗ (∃ d, owns (c : Thread nD τ) bM fullShare d) ∗ (∃ d, slotPt c d)
        ∗ colPt c ![0, 0] inb_S5632x2048_S5632x1024_0_0 f ∗ colPt c (k0_off2 i) (k0_off2_inb i hc3) f
        ∗ semVal ((c : Thread nD τ), SemLoc.dma 6) 0 ∗ owes (c : Thread nD τ) 0 W
        ∗ (iprop(owns (c : Thread nD τ) arg2 fullShare x0 ∗ owns (c : Thread nD τ) arg3 fullShare x1
            ∗ owns (c : Thread nD τ) arg5 fullShare (outOf x0 x1 (roundOf (colRead c ![0, 0] inb_S5632x2048_S5632x1024_0_0 f)))
            ∗ owns (c : Thread nD τ) bM fullShare (roundOf (colRead c ![0, 0] inb_S5632x2048_S5632x1024_0_0 f))
            ∗ colPt c ![0, 0] inb_S5632x2048_S5632x1024_0_0 f
            ∗ (∃ d, flightPt c (k0_off2 i) (k0_off2_inb i hc3) f d) ∗ (∃ W', owes (c : Thread nD τ) 0 W')) -∗ K ⟨⟩))
      ⊢ wp frame (wpE (defs₀ (F := F)) Variants.none c none) Set.univ
          (cc0_ffn_down i arg2 harg2 arg3 harg3 wM (Memref.isWhole_whole _) arg5 harg5 bM (Memref.isWhole_whole _) fM (Memref.isWhole_whole _) cc0_scratch2) K := by
  simp only [cc0_ffn_down_eq_skeleton]; unfold cc0_ffn_down_skel
  unfold owns
  iintro ⟨⟨%f0, %hf0, H0⟩, ⟨%f1, %hf1, H1⟩, ⟨%d2, %f2, -, H2⟩, ⟨%db, %fb, -, HB⟩, ⟨%d, HS⟩, HC0, HC1, Hq, HW, Hk⟩
  subst hf0 hf1
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (coverO _)).trans ?_
    unfold outOf roundOf
    sl_unfold_run_names
    rw [View.readCov_eq_canon', View.readCov_eq_canon', canon_whole]
    rfl
  isplitl [HB]
  · iexists _; isplitr
    swap; · iexact HB
    ipureintro
    sl_unfold_run_names
    refine (View.read_writes_eq_canon _ _ _ (coverB _)).trans ?_
    unfold roundOf
    rw [View.readCov_eq_canon', canon_whole]
  isplitl [HC0]; · iexact HC0
  sl_unfold_run_names
  isplitl [Hq]; · iexists (fM.view.writes (Elt F) d [⟨Rect.whole S5632x1024, ReadAs.same.apply (colRead c ![0, 0] inb_S5632x2048_S5632x1024_0_0 f)⟩]); simp only [flightPt, landed, View.writes]; iexact Hq
  iexists _; iexact HW

/-- `runA` at the offsets the second block has as numerals. -/
theorem runA' (hc1 : cond1 i) (hc2 : k0_cond2 i = 1#1) (hc3 : k0_cond3 i = 1#1) (o : Fin 2 → ℕ)
    (h : ∀ a, o a + S5632x1024.size a ≤ S5632x2048.size a) (ho : k0_off2 i = o) (W : Waits sig Unit) (K : PUnit → sProp 𝕄) :
    iprop(owns (c : Thread nD τ) arg2 fullShare x0 ∗ owns (c : Thread nD τ) arg3 fullShare x1 ∗ (∃ d, owns (c : Thread nD τ) arg5 fullShare d)
        ∗ (∃ d, owns (c : Thread nD τ) bM fullShare d) ∗ (∃ d, slotPt c d)
        ∗ colPt c ![0, 0] inb_S5632x2048_S5632x1024_0_0 f ∗ colPt c o h f
        ∗ semVal ((c : Thread nD τ), SemLoc.dma 6) 0 ∗ owes (c : Thread nD τ) 0 W
        ∗ (iprop(owns (c : Thread nD τ) arg2 fullShare x0 ∗ owns (c : Thread nD τ) arg3 fullShare x1
            ∗ owns (c : Thread nD τ) arg5 fullShare (outOf x0 x1 (roundOf (colRead c ![0, 0] inb_S5632x2048_S5632x1024_0_0 f)))
            ∗ owns (c : Thread nD τ) bM fullShare (roundOf (colRead c ![0, 0] inb_S5632x2048_S5632x1024_0_0 f))
            ∗ colPt c ![0, 0] inb_S5632x2048_S5632x1024_0_0 f
            ∗ (∃ d, flightPt c o h f d) ∗ (∃ W', owes (c : Thread nD τ) 0 W')) -∗ K ⟨⟩))
      ⊢ wp frame (wpE (defs₀ (F := F)) Variants.none c none) Set.univ
          (cc0_ffn_down i arg2 harg2 arg3 harg3 wM (Memref.isWhole_whole _) arg5 harg5 bM (Memref.isWhole_whole _) fM (Memref.isWhole_whole _) cc0_scratch2) K := by
  subst ho
  exact runA c i arg2 harg2 arg3 harg3 arg5 harg5 x0 x1 f hc1 hc2 hc3 W K

end Runs

/-! ## @main up to the region, with the kernel's own semaphore counted -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats 0 c).arrAt_in 0 rfl _).trans ((hA c 0).trans (V_main_arg0 m c))),
      ((h.1 c).1 1).trans (((dats 0 c).arrAt_in 1 rfl _).trans ((hA c 1).trans (V_main_arg1 m c))),
      ((h.1 c).2 main_arg2 (Pipeline.mem_restRefs_of main_arg2 (by decide) (by decide))).trans (V_main_arg2 m c)⟩, h.2⟩) h

/-- The body's one semaphore, and the array its copies read. -/
abbrev osem0 : Fin 1 → SemLoc sig := fun _ => SemLoc.dma 6
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 6) 0 := by
  rw [Pipeline.ownSems0_eq_of_list c osem0 [0] (by decide) (by decide)]; rfl
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄)
      = (((c : Thread nD τ).loc main_v0) ↦{fullShare} V m c main_v0) := by
  rw [BI.bigSep_eq_bigSepL_of_eq [main_v0] (by decide) (by decide)]; rfl

theorem inb1 : ∀ a, (![0, 1024] : Fin 2 → ℕ) a + S5632x1024.size a ≤ S5632x2048.size a := by decide

/-- The second column block is what the first leaves of the weight. -/
theorem col_set : (colM ![0, 1024] inb1).view.set = Finset.univ \ (colM ![0, 0] inb_S5632x2048_S5632x1024_0_0).view.set := by
  ext i
  have h0 := ValueKit.mem_set_slice_whole_iff main_v0 (Rect.unit (s := S5632x2048) ![0, 0] S5632x1024.size inb_S5632x2048_S5632x1024_0_0) i Rect.mem_set_unit
  have h1 := ValueKit.mem_set_slice_whole_iff main_v0 (Rect.unit (s := S5632x2048) ![0, 1024] S5632x1024.size inb1) i Rect.mem_set_unit
  refine h1.trans ((Iff.trans ?_ (not_congr h0).symm).trans (by rw [Finset.mem_sdiff]; exact ⟨fun h => ⟨Finset.mem_univ _, h⟩, fun h => h.2⟩))
  have b0 : (i (0 : Fin 2)).val < 5632 := (i (0 : Fin 2)).isLt
  have b1 : (i (1 : Fin 2)).val < 2048 := (i (1 : Fin 2)).isLt
  constructor
  · intro h h'
    have a1 : 1024 ≤ (i (1 : Fin 2)).val := (h (1 : Fin 2)).1
    have a2 : (i (1 : Fin 2)).val < 0 + 1024 := (h' (1 : Fin 2)).2
    omega
  · intro h
    by_contra hn
    refine h fun a => ?_
    have key : (i (1 : Fin 2)).val < 1024 := by
      by_contra hk
      refine hn fun a => ?_
      match a with
      | ⟨0, _⟩ => exact ⟨Nat.zero_le _, (by omega : (i (0 : Fin 2)).val < 0 + 5632)⟩
      | ⟨1, _⟩ => exact ⟨(by omega : 1024 ≤ (i (1 : Fin 2)).val), (by omega : (i (1 : Fin 2)).val < 1024 + 1024)⟩
    match a with
    | ⟨0, _⟩ => exact ⟨Nat.zero_le _, (by omega : (i (0 : Fin 2)).val < 0 + 5632)⟩
    | ⟨1, _⟩ => exact ⟨Nat.zero_le _, (by omega : (i (1 : Fin 2)).val < 0 + 1024)⟩

theorem col_split (c : Dev nD) (f : WBuf (F := F) c) :
    ((((c : Thread nD τ).loc main_v0) ↦{fullShare} f) : sProp 𝕄)
      ⊢ iprop(colPt c ![0, 0] inb_S5632x2048_S5632x1024_0_0 f ∗ colPt c ![0, 1024] inb1 f) := by
  unfold colPt
  rw [col_set]
  exact (pointsTo_split_subset (Finset.subset_univ _)).1
theorem col_join (c : Dev nD) (f : WBuf (F := F) c) :
    iprop(colPt c ![0, 0] inb_S5632x2048_S5632x1024_0_0 f ∗ colPt c ![0, 1024] inb1 f)
      ⊢ ((((c : Thread nD τ).loc main_v0) ↦{fullShare} f) : sProp 𝕄) := by
  unfold colPt
  rw [col_set]
  exact (pointsTo_split_subset (Finset.subset_univ _)).2

/-! ## What holds between the points -/

/-- The two column blocks rounded. -/
def round0 (c : Dev nD) : Vec F S5632x1024 .bf16 := roundOf (colRead c ![0, 0] inb_S5632x2048_S5632x1024_0_0 (V m c main_v0))
def round1 (c : Dev nD) : Vec F S5632x1024 .bf16 := roundOf (colRead c ![0, 1024] inb1 (V m c main_v0))

def phi0 (c : Dev nD) : sProp 𝕄 :=
  iprop((∃ d, owns (c : Thread nD τ) bM fullShare d) ∗ (∃ d, slotPt c d)
    ∗ colPt c ![0, 0] inb_S5632x2048_S5632x1024_0_0 (V m c main_v0) ∗ colPt c ![0, 1024] inb1 (V m c main_v0)
    ∗ semVal ((c : Thread nD τ), SemLoc.dma 6) 0)
def phi1 (c : Dev nD) : sProp 𝕄 :=
  iprop(owns (c : Thread nD τ) bM fullShare (round0 m c)
    ∗ colPt c ![0, 0] inb_S5632x2048_S5632x1024_0_0 (V m c main_v0)
    ∗ (∃ d, flightPt c ![0, 1024] inb1 (V m c main_v0) d))
def phi2 (c : Dev nD) : sProp 𝕄 :=
  iprop(owns (c : Thread nD τ) bM fullShare (round1 m c) ∗ (∃ d, slotPt c d)
    ∗ colPt c ![0, 0] inb_S5632x2048_S5632x1024_0_0 (V m c main_v0) ∗ colPt c ![0, 1024] inb1 (V m c main_v0)
    ∗ semVal ((c : Thread nD τ), SemLoc.dma 6) 0)
/-- Before the first point, between it and the first of the second half, and from then on. -/
def phi (c : Dev nD) (n : ℕ) : sProp 𝕄 := if n = 0 then phi0 m c else if n ≤ 16 then phi1 m c else phi2 m c

theorem phi_zero (c : Dev nD) {n : ℕ} (h : n = 0) : phi m c n = phi0 m c := if_pos h
theorem phi_mid (c : Dev nD) {n : ℕ} (h : n ≠ 0) (h' : n ≤ 16) : phi m c n = phi1 m c := (if_neg h).trans (if_pos h')
theorem phi_late (c : Dev nD) {n : ℕ} (h : ¬n ≤ 16) : phi m c n = phi2 m c := (if_neg (by omega)).trans (if_neg h)

def outsAt (c : Dev nD) (t : Fin cfg0.N) : Vec F S512x1024 .f32 :=
  outOf (iblk m c 0 t) (iblk m c 1 t) (if t.val < 16 then round0 m c else round1 m c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outsAt m c t
  Φ t := iprop((∃ r, prngReg c r) ∗ phi m c t.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t := by dsimp only [dats]

abbrev ms0_0 (t : Fin cfg0.N) : Memref sig .tc .vmem S512x5632 .bf16 := win0_0.stage (cfg0.slots t 0)
abbrev ms0_1 (t : Fin cfg0.N) : Memref sig .tc .vmem S512x1024 .f32 := win0_1.stage (cfg0.slots t 1)
abbrev ms0_2 (t : Fin cfg0.N) : Memref sig .tc .vmem S512x1024 .f32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem hoff2 : ∀ t : Fin cfg0.N, t.val = 0 → k0_off2 (grid0.coords t) = ![0, 1024] := by decide +kernel

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0 m (dats m 0 c) (A_eq m c 0) (after0_0 m c), before_1 m (dats m 0 c) (A_eq m c 1) (after0_1 m c)]
  rw [after0_0, after0_1, after0_2]
  rw [show (dats m 0 c).Φ t.succ = iprop((∃ r, prngReg c r) ∗ phi m c (t.val + 1)) from rfl,
    show (dats m 0 c).Φ t.castSucc = iprop((∃ r, prngReg c r) ∗ phi m c t.val) from rfl]
  unfold Dat.owesAt Pipeline.owesWithin
  rw [show (dats m 0 c).owed t.castSucc = 0 from rfl, show (dats m 0 c).owed t.succ = 0 from rfl]
  unfold outsAt
  by_cases h0 : t.val = 0
  · rw [phi_zero m c h0, phi_mid m c (n := t.val + 1) (by omega) (by omega), if_pos (show t.val < 16 by omega)]
    unfold phi0 phi1
    iintro ⟨⟨Hg, HB, HS, HC0, HC1, Hq⟩, ⟨%W, -, HW⟩, ⟨%d0, H0⟩, ⟨%d1, H1⟩, ⟨%d2, H2⟩⟩
    iapply (runA' c (grid0.coords t) _ _ _ _ _ _ (iblk m c 0 t) (iblk m c 1 t) (V m c main_v0) ((hcond1 t).2 h0) ((hcond2 t).2 (by omega))
      ((hcond3 t).2 h0) ![0, 1024] inb1 (hoff2 t h0) W _)
    isplitl [H0]; · iexact H0
    isplitl [H1]; · iexact H1
    isplitl [H2]; · iexists _; iexact H2
    isplitl [HB]; · iexact HB
    isplitl [HS]; · iexact HS
    isplitl [HC0]; · iexact HC0
    isplitl [HC1]; · iexact HC1
    isplitl [Hq]; · iexact Hq
    isplitl [HW]; · iexact HW
    iintro ⟨H0, H1, H2, HB, HC0, HF, ⟨%W', HW'⟩⟩
    isplitl [Hg HB HC0 HF]
    · isplitl [Hg]; · iexact Hg
      isplitl [HB]; · iexact HB
      isplitl [HC0]; · iexact HC0
      iexact HF
    isplitl [HW']
    · iexists W'; isplitr; · ipureintro; exact fun _ _ => Or.inl trivial
      iexact HW'
    isplitl [H0]; · iexact H0
    isplitl [H1]; · iexact H1
    iexact H2
  by_cases h16 : t.val = 16
  · rw [phi_mid m c h0 (by omega), phi_late m c (n := t.val + 1) (by omega), if_neg (show ¬t.val < 16 by omega)]
    unfold phi1 phi2
    iintro ⟨⟨Hg, HB, HC0, ⟨%dF, HF⟩⟩, ⟨%W, -, HW⟩, ⟨%d0, H0⟩, ⟨%d1, H1⟩, ⟨%d2, H2⟩⟩
    iapply (runB c (grid0.coords t) _ _ _ _ _ _ (iblk m c 0 t) (iblk m c 1 t) (V m c main_v0) (fun h => h0 ((hcond1 t).1 h)) ((hcond2 t).2 (by omega))
      (fun h => h0 ((hcond3 t).1 h)) ![0, 1024] inb1 dF W _)
    isplitl [H0]; · iexact H0
    isplitl [H1]; · iexact H1
    isplitl [H2]; · iexists _; iexact H2
    isplitl [HB]; · iexists _; iexact HB
    isplitl [HF]; · iexact HF
    isplitl [HW]; · iexact HW
    iintro ⟨H0, H1, H2, HB, HS, HC1, Hq, ⟨%W', HW'⟩⟩
    isplitl [Hg HB HC0 HC1 HS Hq]
    · isplitl [Hg]; · iexact Hg
      isplitl [HB]; · iexact HB
      isplitl [HS]; · iexact HS
      isplitl [HC0]; · iexact HC0
      isplitl [HC1]; · iexact HC1
      iexact Hq
    isplitl [HW']
    · iexists W'; isplitr; · ipureintro; exact fun _ _ => Or.inl trivial
      iexact HW'
    isplitl [H0]; · iexact H0
    isplitl [H1]; · iexact H1
    iexact H2
  have hN : t.val < 32 := t.isLt
  have e1 : ¬cond1 (grid0.coords t) := fun h => h0 ((hcond1 t).1 h)
  have e2 : ¬k0_cond2 (grid0.coords t) = 1#1 := fun h => by have := (hcond2 t).1 h; omega
  have e3 : ¬k0_cond3 (grid0.coords t) = 1#1 := fun h => h0 ((hcond3 t).1 h)
  by_cases hl : t.val < 16
  · rw [phi_mid m c h0 (by omega), phi_mid m c (n := t.val + 1) (by omega) (by omega), if_pos hl]
    unfold phi1
    iintro ⟨⟨Hg, HB, HR⟩, HW, ⟨%d0, H0⟩, ⟨%d1, H1⟩, ⟨%d2, H2⟩⟩
    iapply (runC c (grid0.coords t) _ _ _ _ _ _ (iblk m c 0 t) (iblk m c 1 t) e1 e2 e3 (round0 m c) _)
    isplitl [H0]; · iexact H0
    isplitl [H1]; · iexact H1
    isplitl [H2]; · iexists _; iexact H2
    isplitl [HB]; · iexact HB
    iintro ⟨H0, H1, H2, HB⟩
    isplitl [Hg HB HR]
    · isplitl [Hg]; · iexact Hg
      isplitl [HB]; · iexact HB
      iexact HR
    isplitl [HW]; · iexact HW
    isplitl [H0]; · iexact H0
    isplitl [H1]; · iexact H1
    iexact H2
  · rw [phi_late m c (n := t.val) (by omega), phi_late m c (n := t.val + 1) (by omega), if_neg hl]
    unfold phi2
    iintro ⟨⟨Hg, HB, HR⟩, HW, ⟨%d0, H0⟩, ⟨%d1, H1⟩, ⟨%d2, H2⟩⟩
    iapply (runC c (grid0.coords t) _ _ _ _ _ _ (iblk m c 0 t) (iblk m c 1 t) e1 e2 e3 (round1 m c) _)
    isplitl [H0]; · iexact H0
    isplitl [H1]; · iexact H1
    isplitl [H2]; · iexists _; iexact H2
    isplitl [HB]; · iexact HB
    iintro ⟨H0, H1, H2, HB⟩
    isplitl [Hg HB HR]
    · isplitl [Hg]; · iexact Hg
      isplitl [HB]; · iexact HB
      iexact HR
    isplitl [HW]; · iexact HW
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch's state and the invariant -/

theorem slot_of (c : Dev nD) (d : FBuf (F := F) c) : ((((c : Thread nD τ).loc cc0_scratch1) ↦{fullShare} d) : sProp 𝕄) = slotPt c d := by
  unfold slotPt; simp only [Memref.view_whole, View.set_whole]

theorem hin (c : Dev nD) : Pipeline.ΦD osem0 spec0 H0 (V m) c ⊢ (dats m 0 c).Φ 0 := by
  rw [Pipeline.ΦD_eq, scopedRest0_eq, ownSems00_eq, hbmPts0_eq,
    show (dats m 0 c).Φ 0 = iprop((∃ r, prngReg c r) ∗ phi m c 0) from rfl, phi_zero m c rfl]
  unfold phi0
  simp only [← slot_of, owns_whole]
  iintro ⟨⟨HB, HS⟩, Hg, Hq, HH⟩
  ihave ⟨HC0, HC1⟩ := (col_split c (V m c main_v0)) $$ HH
  isplitl [Hg]; · iexact Hg
  isplitl [HB]; · iexact HB
  isplitl [HS]; · iexact HS
  isplitl [HC0]; · iexact HC0
  isplitl [HC1]; · iexact HC1
  iexact Hq

theorem hout (c : Dev nD) : (dats m 0 c).Φ (Fin.last cfg0.N) ⊢ Pipeline.ΦD osem0 spec0 H0 (V m) c := by
  rw [Pipeline.ΦD_eq, scopedRest0_eq, ownSems00_eq, hbmPts0_eq,
    show (dats m 0 c).Φ (Fin.last cfg0.N) = iprop((∃ r, prngReg c r) ∗ phi m c 32) from rfl, phi_late m c (by omega)]
  unfold phi2
  simp only [← slot_of, owns_whole]
  iintro ⟨Hg, HB, HS, HC0, HC1, Hq⟩
  isplitl [HB HS]
  · isplitl [HB]; · iexists _; iexact HB
    iexact HS
  isplitl [Hg]; · iexact Hg
  isplitl [Hq]; · iexact Hq
  iapply (col_join c (V m c main_v0))
  isplitl [HC0]; · iexact HC0
  iexact HC1

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run alone. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_of m ρ (dats m) (A_eq m) (run_main_quiescent m ρ)

end Cert.FfnDownIdeal.Hand

end
-- ==== Proof.FfnDownValue.lean ====
/- The values of the second half of the feed-forward part: the residual plus the down projection. -/
module

public import proofs.«01_k».proof.Proof.FfnDownIdealFrame
public import proofs.«01_k».proof.Proof.Gen.FfnDownRefIdeal.Read
public import proofs.«01_k».proof.Proof.Shared
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnDownVal

open Cert.FfnDownIdeal Cert.FfnDownIdeal.Gen Cert.FfnDownIdeal.Hand

variable (m : (ℓ : Loc nD τ sig) → Buf (Elt Ideal) ℓ)

/-- Where the blocks of the windows lie. -/
theorem idx : ∀ t : Fin cfg0.N, win0_0.index t = ![t.val % 16, 0] ∧ win0_1.index t = ![t.val % 16, t.val / 16]
    ∧ win0_2.index t = ![t.val % 16, t.val / 16] :=
  (by decide +kernel : ∀ t : Fin grid0.N, _)

/-- The reference's result. -/
abbrev ref (c : Dev nD) := Cert.FfnDownRefIdeal.Read.val_main_v3 (F := Ideal) (m ((c : Thread nD τ).loc main_arg0))
  (m ((c : Thread nD τ).loc main_arg1)) (m ((c : Thread nD τ).loc main_arg2))

/-- One entry of the result, from its residual, its row and its column. -/
def down (h : Ideal .f32) (x : Fin 5632 → Ideal .bf16) (w : Fin 5632 → Ideal .f32) : Ideal .f32 := h + ∑ k, x k * w k

theorem down_congr {h h' : Ideal .f32} {x x' : Fin 5632 → Ideal .bf16} {w w' : Fin 5632 → Ideal .f32} (e0 : h = h') (e1 : ∀ k, x k = x' k)
    (e2 : ∀ k, w k = w' k) : down h x w = down h' x' w' := by
  rw [e0, show x = x' from funext e1, show w = w' from funext e2]

theorem pay2_apply (h : FVec Ideal S512x1024 .f32) (x : FVec Ideal S512x5632 .bf16) (w : FVec Ideal S5632x1024 .bf16) (r : Fin 512) (l : Fin 1024) :
    k0_pay2 (F := Ideal) h x w (ix2 r l) = down (h (ix2 r l)) (fun k => x (ix2 r k)) (fun k => w (ix2 k l)) := by
  unfold down
  pointwise [k0_pay2]

theorem pay1_apply (w : FVec Ideal S5632x1024 .f32) (k : Fin 5632) (l : Fin 1024) : k0_pay1 (F := Ideal) w (ix2 k l) = w (ix2 k l) := by
  pointwise [k0_pay1]

open Cert.FfnDownRefIdeal.Read in
theorem ref_apply (x : FVec Ideal Cert.FfnDownRefIdeal.S8192x5632 .bf16) (h : FVec Ideal Cert.FfnDownRefIdeal.S8192x2048 .f32)
    (w : FVec Ideal Cert.FfnDownRefIdeal.S1x5632x2048 .f32) (r : Fin 8192) (l : Fin 2048) :
    val_main_v3 (F := Ideal) x h w (ix2 r l) = down (h (ix2 r l)) (fun k => x (ix2 r k)) (fun k => w (ix3 0 k l)) := by
  unfold down
  pointwise [val_main_v0, val_main_v1, val_main_v2, val_main_v3]

/-- What a point writes, at an index. -/
theorem outOf_apply (x : FVec Ideal S512x5632 .bf16) (h : FVec Ideal S512x1024 .f32) (w : FVec Ideal S5632x1024 .bf16) (r : Fin 512) (l : Fin 1024) :
    outOf (F := Ideal) x h w (ix2 r l) = down (h (ix2 r l)) (fun k => x (ix2 r k)) (fun k => w (ix2 k l)) := by
  unfold outOf
  rw [View.canon_cons_unit_lit _ _ _ (by decide)]
  refine (pay2_apply _ _ _ r l).trans (down_congr ?_ (fun k => ?_) (fun k => ?_))
  · exact Shr.ld2 (Val := Elt Ideal) (e := .f32) h _ r l r l (Nat.zero_add _).symm (Nat.zero_add _).symm
  · exact Shr.ld2 (Val := Elt Ideal) (e := .bf16) x _ r k r k (Nat.zero_add _).symm (Nat.zero_add _).symm
  · exact Shr.ld2 (Val := Elt Ideal) (e := .bf16) w _ k l k l (Nat.zero_add _).symm (Nat.zero_add _).symm

/-- A rounded block, at an index. -/
theorem roundOf_apply (X : S5632x1024.Idx → Elt Ideal .f32) (k : Fin 5632) (l : Fin 1024) : roundOf (F := Ideal) X (ix2 k l) = X (ix2 k l) := by
  unfold roundOf
  rw [View.canon_cons_unit_lit _ _ _ (by decide)]
  refine (pay1_apply _ k l).trans ?_
  exact Shr.ld2 (Val := Elt Ideal) (e := .f32) X _ k l k l (Nat.zero_add _).symm (Nat.zero_add _).symm

/-- The weight, read at an index. -/
theorem arrW (c : Dev nD) (e : S5632x2048.Idx) (k : Fin 5632) (l : Fin 2048) (h0 : (e 0 : Nat) = k) (h1 : (e 1 : Nat) = l) :
    (V m c main_v0 : FVec Ideal S5632x2048 .f32) e = (m ((c : Thread nD τ).loc main_arg2) : FVec Ideal S1x5632x2048 .f32) (ix3 0 k l) := by
  entry_read
  obtain rfl := Shr.eq_ix2 e k l h0 h1
  pointwise

/-- A column block of the weight, read at an index. -/
theorem col_apply (c : Dev nD) (o : Nat) (h : ∀ a, (![0, o] : Fin 2 → ℕ) a + S5632x1024.size a ≤ S5632x2048.size a) (k : Fin 5632) (r : Fin 1024)
    (l : Fin 2048) (hl : (l : Nat) = o + r) :
    roundOf (F := Ideal) (colRead c ![0, o] h (V m c main_v0)) (ix2 k r) = (m ((c : Thread nD τ).loc main_arg2) : FVec Ideal S1x5632x2048 .f32) (ix3 0 k l) := by
  refine (roundOf_apply _ k r).trans ?_
  refine arrW m c (((View.whole main_v0).slice (Rect.unit (s := S5632x2048) ![0, o] S5632x1024.size h)).emb (ix2 k r)) k l ?_ ?_
  · refine (ValueKit.view_emb_slice_whole_unit_val main_v0 ![0, o] S5632x1024.size h (ix2 k r) 0).trans ?_
    exact Nat.zero_add _
  · refine (ValueKit.view_emb_slice_whole_unit_val main_v0 ![0, o] S5632x1024.size h (ix2 k r) 1).trans ?_
    exact hl.symm

/-- The result array. -/
theorem final2 (c : Dev nD) : (dats m 0 c).arrAt 2 (cfgs 0).N = ref m c := by
  refine (dats m 0 c).arrAt_eq_of_covers 2 _ (by decide +kernel) fun t hf y => ?_
  blk_simp; rw [Hand.after0_2]
  have ht : t.val < 32 := lt_of_lt_of_eq t.isLt N_0
  unfold outsAt
  idx_vars y
  refine (outOf_apply _ _ _ y0 y1).trans ?_
  refine Eq.trans ?_ (congrArg (ref m c) (Shr.eq_ix2 _ ⟨512 * (t.val % 16) + y0, by omega⟩ ⟨1024 * (t.val / 16) + y1, by omega⟩ ?_ ?_).symm)
  · refine Eq.trans ?_ (ref_apply _ _ _ _ _).symm
    refine down_congr ?_ (fun k => ?_) (fun k => ?_)
    · blk_ext [iblk, V, idx t]
    · blk_ext [iblk, V, idx t]
    · by_cases h : t.val < 16
      · rw [if_pos h]
        refine col_apply m c 0 _ k y1 _ ?_
        change 1024 * (t.val / 16) + (y1 : Nat) = _
        omega
      · rw [if_neg h]
        refine col_apply m c 1024 _ k y1 _ ?_
        change 1024 * (t.val / 16) + (y1 : Nat) = _
        omega
  · blk_simp [idx t]
    change _ = 512 * (t.val % 16) + (y0 : Nat)
    omega
  · blk_simp [idx t]
    change _ = 1024 * (t.val / 16) + (y1 : Nat)
    omega

end Cert.FfnDownVal

end
-- ==== Proof.PrepIdealFrame.lean ====
module

public import proofs.«01_k».proof.Proof.Gen.PrepIdeal.Frame
public import proofs.«01_k».proof.Proof.Gen.PrepIdeal.Skeleton
public import Idealize.ShloMosaic.Lib.Pipeline.ReadBack
public import Idealize.ShloMosaic.Lib.Pipeline.ValueKit.Geometry
public import Idealize.ShloMosaic.Lib.Claim

@[expose] public section

set_option maxRecDepth 16384

noncomputable section

namespace Cert.PrepIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PrepIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of the rounded columns, in the order the products read them. -/
abbrev bM : Memref sig .tc .vmem S1536x2048 .bf16 := Memref.whole cc0_scratch0

/-! ## The rectangles -/

abbrev rX : Rect S512x2048 := Rect.unit (s := S512x2048) ![0, 0] S512x2048.size inb_S512x2048_S512x2048_0_0
abbrev rG : Rect S1x2048 := Rect.unit (s := S1x2048) ![0, 0] S1x2048.size inb_S1x2048_S1x2048_0_0
abbrev rP : Rect S128x128 := Rect.unit (s := S128x128) ![0, 0] S128x128.size inb_S128x128_S128x128_0_0
abbrev rI : Rect S1x128 := Rect.unit (s := S1x128) ![0, 0] S1x128.size inb_S1x128_S1x128_0_0
abbrev rD : Rect S128x2048 := Rect.unit (s := S128x2048) ![0, 0] S128x2048.size inb_S128x2048_S128x2048_0_0
abbrev rB : Rect S1536x2048 := Rect.unit (s := S1536x2048) ![0, 0] S1536x2048.size inb_S1536x2048_S1536x2048_0_0
abbrev rQ : Rect S512x1536 := Rect.unit (s := S512x1536) ![0, 0] S512x1536.size inb_S512x1536_S512x1536_0_0
abbrev rT : Rect S512x128 := Rect.unit (s := S512x128) ![0, 0] S512x128.size inb_S512x128_S512x128_0_0
/-- Sixty-four columns from column `a` on, and the last five hundred and twelve. -/
abbrev r64 (a : ℕ) (h : ∀ d, (![a, 0] : Fin 2 → ℕ) d + S64x2048.size d ≤ S1536x2048.size d) : Rect S1536x2048 :=
  Rect.unit (s := S1536x2048) ![a, 0] S64x2048.size h
abbrev r512 : Rect S1536x2048 := Rect.unit (s := S1536x2048) ![1024, 0] S512x2048.size inb_S1536x2048_S512x2048_1024_0
/-- Every fourth row from row `0`, `1`, `2`, `3` on. -/
abbrev s0 : Rect S512x128 := ⟨⟨![0, 0], S128x128.size, ![4, 1], inb_S512x128_S128x128_0_0_s_4_1⟩, spos_4_1⟩
abbrev s1 : Rect S512x128 := ⟨⟨![1, 0], S128x128.size, ![4, 1], inb_S512x128_S128x128_1_0_s_4_1⟩, spos_4_1⟩
abbrev s2 : Rect S512x128 := ⟨⟨![2, 0], S128x128.size, ![4, 1], inb_S512x128_S128x128_2_0_s_4_1⟩, spos_4_1⟩
abbrev s3 : Rect S512x128 := ⟨⟨![3, 0], S128x128.size, ![4, 1], inb_S512x128_S128x128_3_0_s_4_1⟩, spos_4_1⟩

/-! ## The condition -/

abbrev cond1 (i : grid0.Coords) : Prop := (Scalar.cmpi .ne (Scalar.extui (Scalar.cmpi .eq (BitVec.ofNat 32 (i 0).val) 0#32)) 0#32) = 1#1

theorem hcond1 : ∀ t : Fin cfg0.N, cond1 (grid0.coords t) ↔ t.val = 0 := by decide +kernel

/-! ## What a point writes -/

/-- The lanes' numbers and their groups of thirty-two. -/
abbrev lanes : IVec S128x128 32 := iota .tc S128x128 32 [1] iota_S128x128_d1_w32
abbrev groups : IVec S128x128 32 := k0_pay28 lanes 32#32

def uOf (x0 : Vec F S512x2048 .f32) (x1 : Vec F S1x2048 .f32) : Vec F S512x2048 .bf16 :=
  View.canon [⟨rX, k0_pay23 (View.ld x0 rX) (View.ld x1 rG)⟩]
def qkvOf (x0 : Vec F S512x2048 .f32) (x1 : Vec F S1x2048 .f32) (w : Vec F S1536x2048 .bf16) : Vec F S512x1536 .bf16 :=
  View.canon [⟨rQ, k0_pay24 (View.ld x0 rX) (View.ld x1 rG) (View.ld w rB)⟩]
def dtOf (x0 : Vec F S512x2048 .f32) (x1 : Vec F S1x2048 .f32) (x5 : Vec F S128x2048 .f32) : Vec F S512x128 .f32 :=
  View.canon [⟨rT, k0_pay3 (k0_pay23 (View.ld x0 rX) (View.ld x1 rG)) (View.ld x5 rD)⟩]
def cosL (C : FVec F S128x128 .f32) : List (View.Piece (Elt F) S512x128 .f32) :=
  [⟨s3, k0_pay1 (k0_pay39 C groups) (k0_pay40 C groups)⟩, ⟨s2, k0_pay35 C groups⟩, ⟨s1, k0_pay33 C groups⟩, ⟨s0, k0_pay30 C lanes 32#32⟩]
def cosOf (x2 : Vec F S128x128 .i32) (x3 : Vec F S1x128 .f32) : Vec F S512x128 .f32 :=
  View.canon (cosL (k0_pay26 (View.ld x2 rP) (View.ld x3 rI)))
def sinL (S : FVec F S128x128 .f32) (g : Vec F S1x128 .f32) : List (View.Piece (Elt F) S512x128 .f32) :=
  [⟨s3, k0_pay2 S groups (k0_pay37 g)⟩, ⟨s2, k0_pay36 S groups g⟩, ⟨s1, k0_pay34 S groups g⟩, ⟨s0, k0_pay32 (k0_pay29 g) (k0_pay31 S lanes 32#32) 32#32⟩]
def sinOf (x2 : Vec F S128x128 .i32) (x3 : Vec F S1x128 .f32) (x4 : Vec F S1x128 .f32) : Vec F S512x128 .f32 :=
  View.canon (sinL (k0_pay27 (View.ld x2 rP) (View.ld x3 rI)) (View.ld x4 rI))
/-- The columns rounded and reordered, store by store. -/
def roundL (x : S1536x2048.Idx → Elt F .f32) : List (View.Piece (Elt F) S1536x2048 .bf16) :=
  [⟨r512, k0_pay22 (k0_pay21 (View.ld (Val := Elt F) (e' := .f32) x r512))⟩,
   ⟨r64 960 inb_S1536x2048_S64x2048_960_0, k0_pay20 (View.ld (Val := Elt F) (e' := .f32) x (r64 960 inb_S1536x2048_S64x2048_960_0))⟩,
   ⟨r64 896 inb_S1536x2048_S64x2048_896_0, k0_pay19 (View.ld (Val := Elt F) (e' := .f32) x (r64 704 inb_S1536x2048_S64x2048_704_0))⟩,
   ⟨r64 832 inb_S1536x2048_S64x2048_832_0, k0_pay18 (View.ld (Val := Elt F) (e' := .f32) x (r64 896 inb_S1536x2048_S64x2048_896_0))⟩,
   ⟨r64 768 inb_S1536x2048_S64x2048_768_0, k0_pay17 (View.ld (Val := Elt F) (e' := .f32) x (r64 640 inb_S1536x2048_S64x2048_640_0))⟩,
   ⟨r64 704 inb_S1536x2048_S64x2048_704_0, k0_pay16 (View.ld (Val := Elt F) (e' := .f32) x (r64 832 inb_S1536x2048_S64x2048_832_0))⟩,
   ⟨r64 640 inb_S1536x2048_S64x2048_640_0, k0_pay15 (View.ld (Val := Elt F) (e' := .f32) x (r64 576 inb_S1536x2048_S64x2048_576_0))⟩,
   ⟨r64 576 inb_S1536x2048_S64x2048_576_0, k0_pay14 (View.ld (Val := Elt F) (e' := .f32) x (r64 768 inb_S1536x2048_S64x2048_768_0))⟩,
   ⟨r64 512 inb_S1536x2048_S64x2048_512_0, k0_pay13 (View.ld (Val := Elt F) (e' := .f32) x (r64 512 inb_S1536x2048_S64x2048_512_0))⟩,
   ⟨r64 448 inb_S1536x2048_S64x2048_448_0, k0_pay12 (View.ld (Val := Elt F) (e' := .f32) x (r64 448 inb_S1536x2048_S64x2048_448_0))⟩,
   ⟨r64 384 inb_S1536x2048_S64x2048_384_0, k0_pay11 (View.ld (Val := Elt F) (e' := .f32) x (r64 192 inb_S1536x2048_S64x2048_192_0))⟩,
   ⟨r64 320 inb_S1536x2048_S64x2048_320_0, k0_pay10 (k0_pay9 (View.ld (Val := Elt F) (e' := .f32) x (r64 384 inb_S1536x2048_S64x2048_384_0)))⟩,
   ⟨r64 256 inb_S1536x2048_S64x2048_256_0, k0_pay8 (View.ld (Val := Elt F) (e' := .f32) x (r64 128 inb_S1536x2048_S64x2048_128_0))⟩,
   ⟨r64 192 inb_S1536x2048_S64x2048_192_0, k0_pay7 (View.ld (Val := Elt F) (e' := .f32) x (r64 320 inb_S1536x2048_S64x2048_320_0))⟩,
   ⟨r64 128 inb_S1536x2048_S64x2048_128_0, k0_pay6 (View.ld (Val := Elt F) (e' := .f32) x (r64 64 inb_S1536x2048_S64x2048_64_0))⟩,
   ⟨r64 64 inb_S1536x2048_S64x2048_64_0, k0_pay5 (View.ld (Val := Elt F) (e' := .f32) x (r64 256 inb_S1536x2048_S64x2048_256_0))⟩,
   ⟨r64 0 inb_S1536x2048_S64x2048_0_0, k0_pay4 (View.ld (Val := Elt F) (e' := .f32) x (r64 0 inb_S1536x2048_S64x2048_0_0))⟩]
def roundOf (x : S1536x2048.Idx → Elt F .f32) : Vec F S1536x2048 .bf16 := View.canon (roundL x)

theorem coverX (p0 : Vec F S512x2048 .bf16) (y : S512x2048.Idx) : ∃ pc ∈ ([⟨rX, p0⟩] : List (View.Piece (Elt F) S512x2048 .bf16)), y ∈ pc.1.set :=
  View.cover_of_tiled [⟨rX, p0⟩] S512x2048.size (by rfl) y
theorem coverQ (p0 : Vec F S512x1536 .bf16) (y : S512x1536.Idx) : ∃ pc ∈ ([⟨rQ, p0⟩] : List (View.Piece (Elt F) S512x1536 .bf16)), y ∈ pc.1.set :=
  View.cover_of_tiled [⟨rQ, p0⟩] S512x1536.size (by rfl) y
theorem coverT (p0 : Vec F S512x128 .f32) (y : S512x128.Idx) : ∃ pc ∈ ([⟨rT, p0⟩] : List (View.Piece (Elt F) S512x128 .f32)), y ∈ pc.1.set :=
  View.cover_of_tiled [⟨rT, p0⟩] S512x128.size (by rfl) y
/-- A column is in the rectangle it lies in. -/
theorem mem_rows (a n : ℕ) (h : ∀ d, (![a, 0] : Fin 2 → ℕ) d + (![n, 2048] : Fin 2 → ℕ) d ≤ S1536x2048.size d) (y : S1536x2048.Idx)
    (h0 : a ≤ (y (0 : Fin 2)).val) (h1 : (y (0 : Fin 2)).val < a + n) : y ∈ (Rect.unit (s := S1536x2048) ![a, 0] ![n, 2048] h).set := by
  rw [Rect.mem_set_unit]
  intro d
  match d with
  | ⟨0, _⟩ => exact ⟨h0, h1⟩
  | ⟨1, _⟩ => exact ⟨Nat.zero_le _, (by have := (y (1 : Fin 2)).isLt; simpa using this)⟩
theorem coverB (x : S1536x2048.Idx → Elt F .f32) (y : S1536x2048.Idx) : ∃ pc ∈ roundL x, y ∈ pc.1.set := by
  have b0 : (y (0 : Fin 2)).val < 1536 := (y (0 : Fin 2)).isLt
  unfold roundL
  by_cases h : 1024 ≤ (y (0 : Fin 2)).val
  · exact ⟨_, .head _, mem_rows 1024 512 inb_S1536x2048_S512x2048_1024_0 y h (by omega)⟩
  by_cases h : 960 ≤ (y (0 : Fin 2)).val
  · exact ⟨_, .tail _ (.head _), mem_rows 960 64 inb_S1536x2048_S64x2048_960_0 y h (by omega)⟩
  by_cases h : 896 ≤ (y (0 : Fin 2)).val
  · exact ⟨_, .tail _ (.tail _ (.head _)), mem_rows 896 64 inb_S1536x2048_S64x2048_896_0 y h (by omega)⟩
  by_cases h : 832 ≤ (y (0 : Fin 2)).val
  · exact ⟨_, .tail _ (.tail _ (.tail _ (.head _))), mem_rows 832 64 inb_S1536x2048_S64x2048_832_0 y h (by omega)⟩
  by_cases h : 768 ≤ (y (0 : Fin 2)).val
  · exact ⟨_, .tail _ (.tail _ (.tail _ (.tail _ (.head _)))), mem_rows 768 64 inb_S1536x2048_S64x2048_768_0 y h (by omega)⟩
  by_cases h : 704 ≤ (y (0 : Fin 2)).val
  · exact ⟨_, .tail _ (.tail _ (.tail _ (.tail _ (.tail _ (.head _))))), mem_rows 704 64 inb_S1536x2048_S64x2048_704_0 y h (by omega)⟩
  by_cases h : 640 ≤ (y (0 : Fin 2)).val
  · exact ⟨_, .tail _ (.tail _ (.tail _ (.tail _ (.tail _ (.tail _ (.head _)))))), mem_rows 640 64 inb_S1536x2048_S64x2048_640_0 y h (by omega)⟩
  by_cases h : 576 ≤ (y (0 : Fin 2)).val
  · exact ⟨_, .tail _ (.tail _ (.tail _ (.tail _ (.tail _ (.tail _ (.tail _ (.head _))))))), mem_rows 576 64 inb_S1536x2048_S64x2048_576_0 y h (by omega)⟩
  by_cases h : 512 ≤ (y (0 : Fin 2)).val
  · exact ⟨_, .tail _ (.tail _ (.tail _ (.tail _ (.tail _ (.tail _ (.tail _ (.tail _ (.head _)))))))), mem_rows 512 64 inb_S1536x2048_S64x2048_512_0 y h (by omega)⟩
  by_cases h : 448 ≤ (y (0 : Fin 2)).val
  · exact ⟨_, .tail _ (.tail _ (.tail _ (.tail _ (.tail _ (.tail _ (.tail _ (.tail _ (.tail _ (.head _))))))))), mem_rows 448 64 inb_S1536x2048_S64x2048_448_0 y h (by omega)⟩
  by_cases h : 384 ≤ (y (0 : Fin 2)).val
  · exact ⟨_, .tail _ (.tail _ (.tail _ (.tail _ (.tail _ (.tail _ (.tail _ (.tail _ (.tail _ (.tail _ (.head _)))))))))), mem_rows 384 64 inb_S1536x2048_S64x2048_384_0 y h (by omega)⟩
  by_cases h : 320 ≤ (y (0 : Fin 2)).val
  · exact ⟨_, .tail _ (.tail _ (.tail _ (.tail _ (.tail _ (.tail _ (.tail _ (.tail _ (.tail _ (.tail _ (.tail _ (.head _))))))))))), mem_rows 320 64 inb_S1536x2048_S64x2048_320_0 y h (by omega)⟩
  by_cases h : 256 ≤ (y (0 : Fin 2)).val
  · exact ⟨_, .tail _ (.tail _ (.tail _ (.tail _ (.tail _ (.tail _ (.tail _ (.tail _ (.tail _ (.tail _ (.tail _ (.tail _ (.head _)))))))))))), mem_rows 256 64 inb_S1536x2048_S64x2048_256_0 y h (by omega)⟩
  by_cases h : 192 ≤ (y (0 : Fin 2)).val
  · exact ⟨_, .tail _ (.tail _ (.tail _ (.tail _ (.tail _ (.tail _ (.tail _ (.tail _ (.tail _ (.tail _ (.tail _ (.tail _ (.tail _ (.head _))))))))))))), mem_rows 192 64 inb_S1536x2048_S64x2048_192_0 y h (by omega)⟩
  by_cases h : 128 ≤ (y (0 : Fin 2)).val
  · exact ⟨_, .tail _ (.tail _ (.tail _ (.tail _ (.tail _ (.tail _ (.tail _ (.tail _ (.tail _ (.tail _ (.tail _ (.tail _ (.tail _ (.tail _ (.head _)))))))))))))), mem_rows 128 64 inb_S1536x2048_S64x2048_128_0 y h (by omega)⟩
  by_cases h : 64 ≤ (y (0 : Fin 2)).val
  · exact ⟨_, .tail _ (.tail _ (.tail _ (.tail _ (.tail _ (.tail _ (.tail _ (.tail _ (.tail _ (.tail _ (.tail _ (.tail _ (.tail _ (.tail _ (.tail _ (.head _))))))))))))))), mem_rows 64 64 inb_S1536x2048_S64x2048_64_0 y h (by omega)⟩
  exact ⟨_, .tail _ (.tail _ (.tail _ (.tail _ (.tail _ (.tail _ (.tail _ (.tail _ (.tail _ (.tail _ (.tail _ (.tail _ (.tail _ (.tail _ (.tail _ (.tail _ (.head _)))))))))))))))), mem_rows 0 64 inb_S1536x2048_S64x2048_0_0 y (Nat.zero_le _) (by omega)⟩

/-- A row is in the rectangle of its remainder by four. -/
theorem mem_strided (o : ℕ) (ho : o < 4) (h) (h') (y : S512x128.Idx) (hy : (y (0 : Fin 2)).val % 4 = o) :
    y ∈ (⟨⟨![o, 0], S128x128.size, ![4, 1], h⟩, h'⟩ : Rect S512x128).set := by
  have b0 : (y (0 : Fin 2)).val < 512 := (y (0 : Fin 2)).isLt
  have b1 : (y (1 : Fin 2)).val < 128 := (y (1 : Fin 2)).isLt
  rw [LoadRect.mem_set]
  intro a
  match a with
  | ⟨0, _⟩ => exact ⟨(y (0 : Fin 2)).val / 4, (by omega : (y (0 : Fin 2)).val / 4 < 128), (by omega : (y (0 : Fin 2)).val = o + 4 * ((y (0 : Fin 2)).val / 4))⟩
  | ⟨1, _⟩ => exact ⟨(y (1 : Fin 2)).val, b1, (by omega : (y (1 : Fin 2)).val = 0 + 1 * (y (1 : Fin 2)).val)⟩

theorem cover_rows (p3 p2 p1 p0 : Vec F S128x128 .f32) (y : S512x128.Idx) :
    ∃ pc ∈ ([⟨s3, p3⟩, ⟨s2, p2⟩, ⟨s1, p1⟩, ⟨s0, p0⟩] : List (View.Piece (Elt F) S512x128 .f32)), y ∈ pc.1.set := by
  have h4 : (y (0 : Fin 2)).val % 4 < 4 := Nat.mod_lt _ (by decide)
  rcases (by omega : (y (0 : Fin 2)).val % 4 = 0 ∨ (y (0 : Fin 2)).val % 4 = 1 ∨ (y (0 : Fin 2)).val % 4 = 2 ∨ (y (0 : Fin 2)).val % 4 = 3) with h | h | h | h
  · exact ⟨⟨s0, p0⟩, by simp, mem_strided 0 (by decide) _ _ y h⟩
  · exact ⟨⟨s1, p1⟩, by simp, mem_strided 1 (by decide) _ _ y h⟩
  · exact ⟨⟨s2, p2⟩, by simp, mem_strided 2 (by decide) _ _ y h⟩
  · exact ⟨⟨s3, p3⟩, by simp, mem_strided 3 (by decide) _ _ y h⟩

section Runs

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S128x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x2048 .f32) (harg6 : arg6.IsWhole) (arg7 : Memref sig .tc .vmem S1536x2048 .f32) (harg7 : arg7.IsWhole) (arg8 : Memref sig .tc .vmem S512x2048 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x1536 .bf16) (harg12 : arg12.IsWhole)
  (x0 : Vec F S512x2048 .f32) (x1 : Vec F S1x2048 .f32) (x2 : Vec F S128x128 .i32) (x3 : Vec F S1x128 .f32) (x4 : Vec F S1x128 .f32) (x5 : Vec F S128x2048 .f32) (x6 : Vec F S1536x2048 .f32)

set_option maxHeartbeats 2000000 in
/-- A point after the first: the rounded columns are read as the first point left them. -/
theorem runB (hc1 : ¬cond1 i) (w : Vec F S1536x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ owns (c : Thread nD τ) bM fullShare w
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (uOf x0 x1) ∗ owns (c : Thread nD τ) arg9 fullShare (cosOf x2 x3) ∗ owns (c : Thread nD τ) arg10 fullShare (sinOf x2 x3 x4) ∗ owns (c : Thread nD τ) arg11 fullShare (dtOf x0 x1 x5) ∗ owns (c : Thread nD τ) arg12 fullShare (qkvOf x0 x1 w)
            ∗ owns (c : Thread nD τ) bM fullShare w) -∗ K ⟨⟩))
      ⊢ wp frame (wpE (defs₀ (F := F)) Variants.none c none) Set.univ
          (cc0_prep_qkv i arg1 harg1 arg2 harg2 arg3 harg3 arg4 harg4 arg5 harg5 arg6 harg6 arg7 harg7 arg8 harg8 arg9 harg9 arg10 harg10 arg11 harg11 arg12 harg12 bM (Memref.isWhole_whole _)) K := by
  simp only [cc0_prep_qkv_eq_skeleton]; unfold cc0_prep_qkv_skel
  simp only [k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fb, %hfb, HB⟩, Hk⟩
  subst hf0 hf1 hf2 hf3 hf4 hf5 hf6 hfb
  sl_exec (disch := first | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    skip
    exact View.read_writes_eq_canon _ _ _ (coverX _)
  isplitl [H8]
  · iexists _; isplitr
    swap; · iexact H8
    ipureintro
    sl_unfold_run_names
    exact View.read_writes_eq_canon _ _ _ (cover_rows _ _ _ _)
  isplitl [H9]
  · iexists _; isplitr
    swap; · iexact H9
    ipureintro
    sl_unfold_run_names
    exact View.read_writes_eq_canon _ _ _ (cover_rows _ _ _ _)
  isplitl [H10]
  · iexists _; isplitr
    swap; · iexact H10
    ipureintro
    skip
    exact View.read_writes_eq_canon _ _ _ (coverT _)
  isplitl [H11]
  · iexists _; isplitr
    swap; · iexact H11
    ipureintro
    skip
    exact View.read_writes_eq_canon _ _ _ (coverQ _)
  iexists fb; isplitr; · ipureintro; rfl
  iexact HB

set_option maxHeartbeats 2000000 in
/-- The first point: the columns are rounded into their buffer, then read. -/
theorem runA (hc1 : cond1 i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (∃ d, owns (c : Thread nD τ) bM fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (uOf x0 x1) ∗ owns (c : Thread nD τ) arg9 fullShare (cosOf x2 x3) ∗ owns (c : Thread nD τ) arg10 fullShare (sinOf x2 x3 x4) ∗ owns (c : Thread nD τ) arg11 fullShare (dtOf x0 x1 x5) ∗ owns (c : Thread nD τ) arg12 fullShare (qkvOf x0 x1 (roundOf x6))
            ∗ owns (c : Thread nD τ) bM fullShare (roundOf x6)) -∗ K ⟨⟩))
      ⊢ wp frame (wpE (defs₀ (F := F)) Variants.none c none) Set.univ
          (cc0_prep_qkv i arg1 harg1 arg2 harg2 arg3 harg3 arg4 harg4 arg5 harg5 arg6 harg6 arg7 harg7 arg8 harg8 arg9 harg9 arg10 harg10 arg11 harg11 arg12 harg12 bM (Memref.isWhole_whole _)) K := by
  simp only [cc0_prep_qkv_eq_skeleton]; unfold cc0_prep_qkv_skel
  simp only [k0_part4_eq_skeleton, k0_part1_eq_skeleton, k0_part2_eq_skeleton, k0_part3_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%db, %fb, -, HB⟩, Hk⟩
  subst hf0 hf1 hf2 hf3 hf4 hf5 hf6
  sl_exec (disch := first | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    exact View.read_writes_eq_canon _ _ _ (coverX _)
  isplitl [H8]
  · iexists _; isplitr
    swap; · iexact H8
    ipureintro
    sl_unfold_run_names
    exact View.read_writes_eq_canon _ _ _ (cover_rows _ _ _ _)
  isplitl [H9]
  · iexists _; isplitr
    swap; · iexact H9
    ipureintro
    sl_unfold_run_names
    exact View.read_writes_eq_canon _ _ _ (cover_rows _ _ _ _)
  isplitl [H10]
  · iexists _; isplitr
    swap; · iexact H10
    ipureintro
    sl_unfold_run_names
    exact View.read_writes_eq_canon _ _ _ (coverT _)
  isplitl [H11]
  · iexists _; isplitr
    swap; · iexact H11
    ipureintro
    sl_unfold_run_names
    refine (View.read_writes_eq_canon _ _ _ (coverQ _)).trans ?_
    unfold qkvOf roundOf
    rw [View.readCov_eq_canon']
    rfl
  iexists _; isplitr
  swap; · iexact HB
  ipureintro
  sl_unfold_run_names
  exact View.read_writes_eq_canon _ _ _ (coverB _)

end Runs

/-! ## What holds between the points -/

theorem PhiA0_eq (c : Dev nD) :
    (Pipeline.ΦA spec0 c : sProp 𝕄) = iprop((∃ d, owns (c : Thread nD τ) bM fullShare d) ∗ (∃ r, prngReg c r)) := by
  unfold Pipeline.ΦA; rw [scopedRest0_eq]; simp only [bM, owns_whole]; try rfl

/-- The columns rounded once, at the first point. -/
def round0 (c : Dev nD) : Vec F S1536x2048 .bf16 := roundOf (iblk m c 6 t0_0)

/-- Before the first point the buffer holds anything, from then on the rounded columns. -/
def phi (c : Dev nD) (n : ℕ) : sProp 𝕄 :=
  if n = 0 then iprop(∃ d, owns (c : Thread nD τ) bM fullShare d) else owns (c : Thread nD τ) bM fullShare (round0 m c)

theorem phi_zero (c : Dev nD) {n : ℕ} (h : n = 0) : phi m c n = iprop(∃ d, owns (c : Thread nD τ) bM fullShare d) := if_pos h
theorem phi_pos (c : Dev nD) {n : ℕ} (h : n ≠ 0) : phi m c n = owns (c : Thread nD τ) bM fullShare (round0 m c) := if_neg h

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => uOf (iblk m c 0 t) (iblk m c 1 t)
    | ⟨8, _⟩ => cosOf (iblk m c 2 t) (iblk m c 3 t)
    | ⟨9, _⟩ => sinOf (iblk m c 2 t) (iblk m c 3 t) (iblk m c 4 t)
    | ⟨10, _⟩ => dtOf (iblk m c 0 t) (iblk m c 1 t) (iblk m c 5 t)
    | ⟨11, _⟩ => qkvOf (iblk m c 0 t) (iblk m c 1 t) (round0 m c)
  Φ t := iprop(phi m c t.val ∗ (∃ r, prngReg c r))
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = uOf (iblk m c 0 t) (iblk m c 1 t) := by dsimp only [dats]
theorem after0_8 (c : Dev nD) (t : Fin cfg0.N) : (dats m 0 c).after 8 t = cosOf (iblk m c 2 t) (iblk m c 3 t) := by dsimp only [dats]
theorem after0_9 (c : Dev nD) (t : Fin cfg0.N) : (dats m 0 c).after 9 t = sinOf (iblk m c 2 t) (iblk m c 3 t) (iblk m c 4 t) := by dsimp only [dats]
theorem after0_10 (c : Dev nD) (t : Fin cfg0.N) : (dats m 0 c).after 10 t = dtOf (iblk m c 0 t) (iblk m c 1 t) (iblk m c 5 t) := by dsimp only [dats]
theorem after0_11 (c : Dev nD) (t : Fin cfg0.N) : (dats m 0 c).after 11 t = qkvOf (iblk m c 0 t) (iblk m c 1 t) (round0 m c) := by dsimp only [dats]

abbrev ms0_0 (t : Fin cfg0.N) : Memref sig .tc .vmem S512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S128x128 .i32 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S128x2048 .f32 := win0_5.stage (cfg0.slots t 5)
abbrev ms0_6 (t : Fin cfg0.N) : Memref sig .tc .vmem S1536x2048 .f32 := win0_6.stage (cfg0.slots t 6)
abbrev ms0_7 (t : Fin cfg0.N) : Memref sig .tc .vmem S512x2048 .bf16 := win0_7.stage (cfg0.slots t 7)
abbrev ms0_8 (t : Fin cfg0.N) : Memref sig .tc .vmem S512x128 .f32 := win0_8.stage (cfg0.slots t 8)
abbrev ms0_9 (t : Fin cfg0.N) : Memref sig .tc .vmem S512x128 .f32 := win0_9.stage (cfg0.slots t 9)
abbrev ms0_10 (t : Fin cfg0.N) : Memref sig .tc .vmem S512x128 .f32 := win0_10.stage (cfg0.slots t 10)
abbrev ms0_11 (t : Fin cfg0.N) : Memref sig .tc .vmem S512x1536 .bf16 := win0_11.stage (cfg0.slots t 11)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c), before0_2_of m (dats m 0 c) (A_eq m c 2) (after0_2 m c), before0_3_of m (dats m 0 c) (A_eq m c 3) (after0_3 m c), before0_4_of m (dats m 0 c) (A_eq m c 4) (after0_4 m c), before0_5_of m (dats m 0 c) (A_eq m c 5) (after0_5 m c), before0_6_of m (dats m 0 c) (A_eq m c 6) (after0_6 m c)]
  rw [show (dats m 0 c).owesAt () t.succ = (dats m 0 c).owesAt () t.castSucc from rfl, after0_0, after0_1, after0_2, after0_3, after0_4, after0_5, after0_6, after0_7, after0_8, after0_9, after0_10, after0_11]
  rw [show (dats m 0 c).Φ t.succ = iprop(phi m c (t.val + 1) ∗ (∃ r, prngReg c r)) from rfl,
    show (dats m 0 c).Φ t.castSucc = iprop(phi m c t.val ∗ (∃ r, prngReg c r)) from rfl, phi_pos m c (n := t.val + 1) (by omega)]
  by_cases h0 : t.val = 0
  · obtain rfl : t = t0_0 := Fin.ext h0
    rw [phi_zero m c h0]
    unfold round0
    iintro ⟨⟨HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t0_0) _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) ((hcond1 t0_0).2 h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HB]; · iexact HB
    iintro ⟨H0, H1, H2, H3, H4, H5, H6, H7, H8, H9, H10, H11, HB⟩
    isplitl [HB Hg]
    · isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [phi_pos m c h0]
    iintro ⟨⟨HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => h0 ((hcond1 t).1 h)) (round0 m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HB]; · iexact HB
    iintro ⟨H0, H1, H2, H3, H4, H5, H6, H7, H8, H9, H10, H11, HB⟩
    isplitl [HB Hg]
    · isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch's state and the invariant -/

theorem hin (c : Dev nD) : Pipeline.ΦA spec0 c ⊢ (dats m 0 c).Φ 0 := by
  rw [PhiA0_eq, show (dats m 0 c).Φ 0 = iprop(phi m c 0 ∗ (∃ r, prngReg c r)) from rfl, phi_zero m c rfl]

theorem hout (c : Dev nD) : (dats m 0 c).Φ (Fin.last cfg0.N) ⊢ Pipeline.ΦA spec0 c := by
  rw [PhiA0_eq, show (dats m 0 c).Φ (Fin.last cfg0.N) = iprop(phi m c 16 ∗ (∃ r, prngReg c r)) from rfl, phi_pos m c (by omega)]
  iintro ⟨HB, Hg⟩
  isplitl [HB]; · iexists _; iexact HB
  iexact Hg

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := hin m) (hout := hout m)

/-- The run alone. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.PrepIdeal.Hand

end
-- ==== Proof.PrepValue.lean ====
/- The values of the first call: the norm, the tables of cosines and sines, the two projections that read their columns by element offsets. -/
module

public import proofs.«01_k».proof.Proof.PrepIdealFrame
public import proofs.«01_k».proof.Proof.Gen.PrepRefIdeal.Read
public import proofs.«01_k».proof.Proof.Shared
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PrepVal

open Cert.PrepIdeal Cert.PrepIdeal.Gen Cert.PrepIdeal.Hand

variable (m : (ℓ : Loc nD τ sig) → Buf (Elt Ideal) ℓ)

/-- The norm a point writes, at an index. -/
theorem pay23_apply (x : FVec Ideal S512x2048 .f32) (g : FVec Ideal S1x2048 .f32) (r : Fin 512) (l : Fin 2048) :
    k0_pay23 (F := Ideal) x g (ix2 r l) = Shr.rms (fun k => x (ix2 r k)) (g (ix2 0 l)) l := by
  pointwise [k0_pay23, Shr.rms]

theorem pay24_apply (x : FVec Ideal S512x2048 .f32) (g : FVec Ideal S1x2048 .f32) (w : FVec Ideal S1536x2048 .bf16) (r : Fin 512) (l : Fin 1536) :
    k0_pay24 (F := Ideal) x g w (ix2 r l) = ∑ k : Fin 2048, Shr.rms (fun k => x (ix2 r k)) (g (ix2 0 k)) k * w (ix2 l k) := by
  refine Eq.trans (?_ : _ = ∑ k : Fin 2048, k0_pay23 (F := Ideal) x g (ix2 r k) * w (ix2 l k)) ?_
  · pointwise [k0_pay24]
  · exact Fin.sum_fin_congr fun k => Ideal.mul_congr (pay23_apply x g r k) rfl

theorem pay3_apply (u : FVec Ideal S512x2048 .bf16) (w : FVec Ideal S128x2048 .f32) (r : Fin 512) (l : Fin 128) :
    k0_pay3 (F := Ideal) u w (ix2 r l) = ∑ k : Fin 2048, u (ix2 r k) * w (ix2 l k) := by
  pointwise [k0_pay3]

/-- The angle of a position and a frequency. -/
def ang (p : BitVec 32) (f : Ideal .f32) : Ideal .f32 := FloatOps.sitofp .f32 p * f

theorem pay25_apply (p : IVec S128x128 32) (f : FVec Ideal S1x128 .f32) (r : Fin 128) (l : Fin 128) :
    k0_pay25 (F := Ideal) p f (ix2 r l) = ang (p (ix2 r l)) (f (ix2 0 l)) := by
  unfold ang
  pointwise [k0_pay25]

theorem groups_apply (r : Fin 128) (l : Fin 128) : groups (ix2 r l) = BitVec.ofNat 32 (l.val / 32) := by
  have h : ∀ l : Fin 128, groups (ix2 (0 : Fin 128) l) = BitVec.ofNat 32 (l.val / 32) := by decide +kernel
  refine Eq.trans ?_ (h l)
  pointwise [groups, lanes, k0_pay28]

/-- One entry of a group's values, and zero in the other groups. -/
def sel (q : Nat) (f : Fin 128 → Ideal .f32) (k : Fin 128) : Ideal .f32 := if k.val / 32 = q then f k else 0

theorem sel_eq (q : Fin 4) (f : Fin 128 → Ideal .f32) (k : Fin 128) :
    Scalar.select (IntOp.cmpi .eq (BitVec.ofNat 32 (k.val / 32)) (BitVec.ofNat 32 q.val)) (f k) 0 = sel q.val f k := by
  have h : ∀ (q : Fin 4) (k : Fin 128), IntOp.cmpi .eq (BitVec.ofNat 32 (k.val / 32)) (BitVec.ofNat 32 q.val) = if k.val / 32 = q.val then 1#1 else 0#1 := by
    decide +kernel
  rw [h]
  unfold sel
  by_cases e : k.val / 32 = q.val
  · rw [if_pos e, if_pos e]; rfl
  · rw [if_neg e, if_neg e]; rfl

/-- Of the four rotations of a group's values exactly one is not zero, at any lane: their sum is the group's value at
the lane's place. -/
theorem sum4 (q : Fin 4) (f : Fin 128 → Ideal .f32) (l : Fin 128) :
    sel q.val f l + sel q.val f ⟨(l.val + 128 - 32) % 128, Nat.mod_lt _ (by decide)⟩ + sel q.val f ⟨(l.val + 128 - 64) % 128, Nat.mod_lt _ (by decide)⟩
      + sel q.val f ⟨(l.val + 128 - 96) % 128, Nat.mod_lt _ (by decide)⟩ = f ⟨32 * q.val + l.val % 32, by omega⟩ := by
  have hl := l.isLt
  have hq := q.isLt
  have e : ∀ k : Fin 128, k.val / 32 = q.val → k.val % 32 = l.val % 32 → sel q.val f k = f ⟨32 * q.val + l.val % 32, by omega⟩ := by
    intro k h1 h2
    unfold sel
    rw [if_pos h1]
    exact congrArg f (Fin.ext (by show k.val = 32 * q.val + l.val % 32; omega))
  have z : ∀ k : Fin 128, k.val / 32 ≠ q.val → sel q.val f k = 0 := fun k h => if_neg h
  rcases (by omega : l.val / 32 = q.val ∨ (l.val + 128 - 32) % 128 / 32 = q.val ∨ (l.val + 128 - 64) % 128 / 32 = q.val
    ∨ (l.val + 128 - 96) % 128 / 32 = q.val) with h | h | h | h
  · rw [e l h rfl, z ⟨(l.val + 128 - 32) % 128, _⟩ (by show (l.val + 128 - 32) % 128 / 32 ≠ _; omega),
      z ⟨(l.val + 128 - 64) % 128, _⟩ (by show (l.val + 128 - 64) % 128 / 32 ≠ _; omega),
      z ⟨(l.val + 128 - 96) % 128, _⟩ (by show (l.val + 128 - 96) % 128 / 32 ≠ _; omega), add_zero, add_zero, add_zero]
  · rw [z l (by omega), e ⟨(l.val + 128 - 32) % 128, _⟩ h (by show (l.val + 128 - 32) % 128 % 32 = _; omega),
      z ⟨(l.val + 128 - 64) % 128, _⟩ (by show (l.val + 128 - 64) % 128 / 32 ≠ _; omega),
      z ⟨(l.val + 128 - 96) % 128, _⟩ (by show (l.val + 128 - 96) % 128 / 32 ≠ _; omega), zero_add, add_zero, add_zero]
  · rw [z l (by omega), z ⟨(l.val + 128 - 32) % 128, _⟩ (by show (l.val + 128 - 32) % 128 / 32 ≠ _; omega),
      e ⟨(l.val + 128 - 64) % 128, _⟩ h (by show (l.val + 128 - 64) % 128 % 32 = _; omega),
      z ⟨(l.val + 128 - 96) % 128, _⟩ (by show (l.val + 128 - 96) % 128 / 32 ≠ _; omega), zero_add, zero_add, add_zero]
  · rw [z l (by omega), z ⟨(l.val + 128 - 32) % 128, _⟩ (by show (l.val + 128 - 32) % 128 / 32 ≠ _; omega),
      z ⟨(l.val + 128 - 64) % 128, _⟩ (by show (l.val + 128 - 64) % 128 / 32 ≠ _; omega),
      e ⟨(l.val + 128 - 96) % 128, _⟩ h (by show (l.val + 128 - 96) % 128 % 32 = _; omega), zero_add, zero_add, zero_add]

/-- The same sum as it is read off the payloads. -/
theorem rep (q : Fin 4) (f : Fin 128 → Ideal .f32) (l : Fin 128) :
    Scalar.select (IntOp.cmpi .eq (BitVec.ofNat 32 (l.val / 32)) (BitVec.ofNat 32 q.val)) (f l) 0
      + Scalar.select (IntOp.cmpi .eq (BitVec.ofNat 32 ((l.val + 128 - 32) % 128 / 32)) (BitVec.ofNat 32 q.val)) (f ⟨(l.val + 128 - 32) % 128, Nat.mod_lt _ (by decide)⟩) 0
      + Scalar.select (IntOp.cmpi .eq (BitVec.ofNat 32 ((l.val + 128 - 64) % 128 / 32)) (BitVec.ofNat 32 q.val)) (f ⟨(l.val + 128 - 64) % 128, Nat.mod_lt _ (by decide)⟩) 0
      + Scalar.select (IntOp.cmpi .eq (BitVec.ofNat 32 ((l.val + 128 - 96) % 128 / 32)) (BitVec.ofNat 32 q.val)) (f ⟨(l.val + 128 - 96) % 128, Nat.mod_lt _ (by decide)⟩) 0
      = f ⟨32 * q.val + l.val % 32, by omega⟩ := by
  have h1 := sel_eq q f ⟨(l.val + 128 - 32) % 128, Nat.mod_lt _ (by decide)⟩
  have h2 := sel_eq q f ⟨(l.val + 128 - 64) % 128, Nat.mod_lt _ (by decide)⟩
  have h3 := sel_eq q f ⟨(l.val + 128 - 96) % 128, Nat.mod_lt _ (by decide)⟩
  simp only [] at h1 h2 h3
  rw [sel_eq q f l, h1, h2, h3]
  exact sum4 q f l

/-! What the four strided stores of each table hold. -/

theorem cos0_apply (X : FVec Ideal S128x128 .f32) (r : Fin 128) (l : Fin 128) :
    k0_pay30 (F := Ideal) X lanes 32#32 (ix2 r l) = X (ix2 r ⟨0 + l.val % 32, by omega⟩) := by
  pointwise [k0_pay30]
  simp only [groups_apply]
  exact (rep 0 (fun k => X (ix2 r k)) l).trans (congrArg (fun k => X (ix2 r k)) (Fin.ext (Nat.zero_add _)))

theorem cos1_apply (X : FVec Ideal S128x128 .f32) (r : Fin 128) (l : Fin 128) :
    k0_pay33 (F := Ideal) X groups (ix2 r l) = X (ix2 r ⟨32 + l.val % 32, by omega⟩) := by
  pointwise [k0_pay33]
  simp only [groups_apply]
  exact rep 1 (fun k => X (ix2 r k)) l

theorem cos2_apply (X : FVec Ideal S128x128 .f32) (r : Fin 128) (l : Fin 128) :
    k0_pay35 (F := Ideal) X groups (ix2 r l) = X (ix2 r ⟨64 + l.val % 32, by omega⟩) := by
  pointwise [k0_pay35]
  simp only [groups_apply]
  exact rep 2 (fun k => X (ix2 r k)) l

theorem cos3_apply (X : FVec Ideal S128x128 .f32) (r : Fin 128) (l : Fin 128) :
    k0_pay1 (F := Ideal) (k0_pay39 X groups) (k0_pay40 X groups) (ix2 r l) = X (ix2 r ⟨96 + l.val % 32, by omega⟩) := by
  pointwise [k0_pay1, k0_pay39, k0_pay40, k0_pay38]
  simp only [groups_apply]
  exact rep 3 (fun k => X (ix2 r k)) l

theorem sin0_apply (X : FVec Ideal S128x128 .f32) (g : FVec Ideal S1x128 .f32) (r : Fin 128) (l : Fin 128) :
    k0_pay32 (F := Ideal) (k0_pay29 g) (k0_pay31 X lanes 32#32) 32#32 (ix2 r l) = X (ix2 r ⟨0 + l.val % 32, by omega⟩) * g (ix2 0 l) := by
  pointwise [k0_pay32, k0_pay29, k0_pay31]
  simp only [groups_apply]
  exact Ideal.mul_congr ((rep 0 (fun k => X (ix2 r k)) l).trans (congrArg (fun k => X (ix2 r k)) (Fin.ext (Nat.zero_add _)))) rfl

theorem sin1_apply (X : FVec Ideal S128x128 .f32) (g : FVec Ideal S1x128 .f32) (r : Fin 128) (l : Fin 128) :
    k0_pay34 (F := Ideal) X groups g (ix2 r l) = X (ix2 r ⟨32 + l.val % 32, by omega⟩) * g (ix2 0 l) := by
  pointwise [k0_pay34]
  simp only [groups_apply]
  exact Ideal.mul_congr (rep 1 (fun k => X (ix2 r k)) l) rfl

theorem sin2_apply (X : FVec Ideal S128x128 .f32) (g : FVec Ideal S1x128 .f32) (r : Fin 128) (l : Fin 128) :
    k0_pay36 (F := Ideal) X groups g (ix2 r l) = X (ix2 r ⟨64 + l.val % 32, by omega⟩) * g (ix2 0 l) := by
  pointwise [k0_pay36]
  simp only [groups_apply]
  exact Ideal.mul_congr (rep 2 (fun k => X (ix2 r k)) l) rfl

theorem sin3_apply (X : FVec Ideal S128x128 .f32) (g : FVec Ideal S1x128 .f32) (r : Fin 128) (l : Fin 128) :
    k0_pay2 (F := Ideal) X groups (k0_pay37 g) (ix2 r l) = X (ix2 r ⟨96 + l.val % 32, by omega⟩) * g (ix2 0 l) := by
  pointwise [k0_pay2, k0_pay37]
  simp only [groups_apply]
  exact Ideal.mul_congr (rep 3 (fun k => X (ix2 r k)) l) rfl

/-! The tables and the reordered columns, read back from their stores. -/

theorem b4 (y : S512x128.Idx) : (y 0).val / 4 < 128 := by have : (y 0).val < 512 := (y 0).isLt; omega
theorem b32 (y : S512x128.Idx) : 32 * ((y 0).val % 4) + (y 1).val % 32 < 128 := by omega

/-- A table of cosines, at an index: row `4 r + q` holds the values of group `q` of row `r`. -/
theorem cosL_apply (X : FVec Ideal S128x128 .f32) (y : S512x128.Idx) :
    View.canon (cosL (F := Ideal) X) y = X (ix2 ⟨(y 0).val / 4, b4 y⟩
      ⟨32 * ((y 0).val % 4) + (y 1).val % 32, b32 y⟩) := by
  refine View.canon_apply_of_pieces (Val := Elt Ideal) (fun y : S512x128.Idx => X (ix2 ⟨(y 0).val / 4, b4 y⟩
      ⟨32 * ((y 0).val % 4) + (y 1).val % 32, b32 y⟩)) _ ?_ y (cover_rows _ _ _ _ y)
  have key : ∀ (q : Fin 4) (h h') (x : S128x128.Idx) (G : FVec Ideal S128x128 .f32)
      (hG : ∀ (r l : Fin 128), G (ix2 r l) = X (ix2 r ⟨32 * q.val + l.val % 32, by omega⟩)),
      G x = (fun y : S512x128.Idx => X (ix2 ⟨(y 0).val / 4, b4 y⟩
        ⟨32 * ((y 0).val % 4) + (y 1).val % 32, b32 y⟩)) ((⟨⟨![q.val, 0], S128x128.size, ![4, 1], h⟩, h'⟩ : Rect S512x128).emb x) := by
    intro q h h' x G hG
    idx_vars x
    refine (hG x0 x1).trans (congrArg X (Shr.eq_ix2 _ _ _ ?_ ?_))
    · show x0.val = (q.val + 4 * x0.val) / 4
      omega
    · show 32 * q.val + x1.val % 32 = 32 * ((q.val + 4 * x0.val) % 4) + (0 + 1 * x1.val) % 32
      omega
  intro p hp x
  simp only [cosL, List.mem_cons, List.not_mem_nil, or_false] at hp
  rcases hp with rfl | rfl | rfl | rfl
  · exact key 3 _ _ x _ (cos3_apply X)
  · exact key 2 _ _ x _ (cos2_apply X)
  · exact key 1 _ _ x _ (cos1_apply X)
  · exact key 0 _ _ x _ fun r l => (cos0_apply X r l).trans (congrArg (fun k => X (ix2 r k)) (Fin.ext (by show 0 + _ = 32 * 0 + _; omega)))

/-- A table of sines, at an index: the same, times the lane's sign. -/
theorem sinL_apply (X : FVec Ideal S128x128 .f32) (g : FVec Ideal S1x128 .f32) (y : S512x128.Idx) :
    View.canon (sinL (F := Ideal) X g) y = X (ix2 ⟨(y 0).val / 4, b4 y⟩
      ⟨32 * ((y 0).val % 4) + (y 1).val % 32, b32 y⟩) * g (ix2 0 ⟨(y 1).val, (y 1).isLt⟩) := by
  refine View.canon_apply_of_pieces (Val := Elt Ideal) (fun y : S512x128.Idx => X (ix2 ⟨(y 0).val / 4, b4 y⟩
      ⟨32 * ((y 0).val % 4) + (y 1).val % 32, b32 y⟩) * g (ix2 0 ⟨(y 1).val, (y 1).isLt⟩)) _ ?_ y (cover_rows _ _ _ _ y)
  have key : ∀ (q : Fin 4) (h h') (x : S128x128.Idx) (G : FVec Ideal S128x128 .f32)
      (hG : ∀ (r l : Fin 128), G (ix2 r l) = X (ix2 r ⟨32 * q.val + l.val % 32, by omega⟩) * g (ix2 0 l)),
      G x = (fun y : S512x128.Idx => X (ix2 ⟨(y 0).val / 4, b4 y⟩
        ⟨32 * ((y 0).val % 4) + (y 1).val % 32, b32 y⟩) * g (ix2 0 ⟨(y 1).val, (y 1).isLt⟩))
        ((⟨⟨![q.val, 0], S128x128.size, ![4, 1], h⟩, h'⟩ : Rect S512x128).emb x) := by
    intro q h h' x G hG
    idx_vars x
    refine (hG x0 x1).trans (Ideal.mul_congr (congrArg X (Shr.eq_ix2 _ _ _ ?_ ?_)) (congrArg g (Shr.eq_ix2 _ _ _ rfl ?_)))
    · show x0.val = (q.val + 4 * x0.val) / 4
      omega
    · show 32 * q.val + x1.val % 32 = 32 * ((q.val + 4 * x0.val) % 4) + (0 + 1 * x1.val) % 32
      omega
    · show x1.val = 0 + 1 * x1.val
      omega
  intro p hp x
  simp only [sinL, List.mem_cons, List.not_mem_nil, or_false] at hp
  rcases hp with rfl | rfl | rfl | rfl
  · exact key 3 _ _ x _ (sin3_apply X g)
  · exact key 2 _ _ x _ (sin2_apply X g)
  · exact key 1 _ _ x _ (sin1_apply X g)
  · exact key 0 _ _ x _ fun r l => (sin0_apply X g r l).trans
      (Ideal.mul_congr (congrArg (fun k => X (ix2 r k)) (Fin.ext (by show 0 + _ = 32 * 0 + _; omega))) rfl)

/-- Where a column of the reordered ones comes from: the halves of the query heads of a group are interleaved. -/
def src (n : Fin 1536) : Fin 1536 :=
  ⟨if n.val < 1024 then 512 * (n.val / 512) + 256 * (n.val / 64 % 2) + 64 * (n.val % 512 / 128) + n.val % 64 else n.val, by
    have := n.isLt
    split <;> omega⟩

/-- The columns in their new order. -/
def ordered (X : FVec Ideal S1536x2048 .f32) : FVec Ideal S1536x2048 .bf16 :=
  fun y => X (ix2 (src ⟨(y 0).val, (y 0).isLt⟩) ⟨(y 1).val, (y 1).isLt⟩)

/-- The rounded columns, at an index. -/
theorem roundOf_apply (X : FVec Ideal S1536x2048 .f32) (y : S1536x2048.Idx) :
    roundOf (F := Ideal) X y = ordered X y := by
  unfold roundOf
  refine View.canon_apply_of_pieces (Val := Elt Ideal) (e := .bf16) (ordered X) _ ?_ y (coverB (F := Ideal) X y)
  have key : ∀ (a b : Nat) (ha) (hb) (hab : ∀ k, k < 64 → a + k < 1024 ∧ b + k = 512 * ((a + k) / 512) + 256 * ((a + k) / 64 % 2) + 64 * ((a + k) % 512 / 128) + (a + k) % 64)
      (G : FVec Ideal S64x2048 .f32 → FVec Ideal S64x2048 .bf16) (hG : ∀ (Z) (r : Fin 64) (l : Fin 2048), G Z (ix2 r l) = Z (ix2 r l)) (x : S64x2048.Idx),
      G (View.ld (Val := Elt Ideal) (e' := .f32) X (r64 b hb)) x
        = ordered X ((r64 a ha).emb x) := by
    intro a b ha hb hab G hG x
    idx_vars x
    obtain ⟨h0, h1⟩ := hab x0.val x0.isLt
    refine (hG _ x0 x1).trans (congrArg X (Shr.eq_ix2 _ _ _ ?_ ?_))
    · show b + 1 * x0.val = if a + 1 * x0.val < 1024 then 512 * ((a + 1 * x0.val) / 512) + 256 * ((a + 1 * x0.val) / 64 % 2) + 64 * ((a + 1 * x0.val) % 512 / 128) + (a + 1 * x0.val) % 64 else a + 1 * x0.val
      rw [Nat.one_mul, if_pos h0]
      exact h1
    · rfl
  intro p hp x
  simp only [roundL, List.mem_cons, List.not_mem_nil, or_false] at hp
  rcases hp with rfl | rfl | rfl | rfl | rfl | rfl | rfl | rfl | rfl | rfl | rfl | rfl | rfl | rfl | rfl | rfl | rfl
  · show k0_pay22 (F := Ideal) (k0_pay21 (View.ld (Val := Elt Ideal) (e' := .f32) X r512)) x = _
    idx_vars x
    refine (show _ = View.ld (Val := Elt Ideal) (e' := .f32) X r512 (ix2 x0 x1) from ?_).trans (congrArg X (Shr.eq_ix2 _ _ _ ?_ ?_))
    · pointwise [k0_pay22, k0_pay21]
    · show 1024 + 1 * x0.val = if 1024 + 1 * x0.val < 1024 then _ else 1024 + 1 * x0.val
      rw [if_neg (by omega)]
    · rfl
  · exact key 960 960 inb_S1536x2048_S64x2048_960_0 inb_S1536x2048_S64x2048_960_0 (by intro k hk; omega) (fun Z => k0_pay20 (F := Ideal) Z) (fun Z r l => by pointwise [k0_pay20]) x
  · exact key 896 704 inb_S1536x2048_S64x2048_896_0 inb_S1536x2048_S64x2048_704_0 (by intro k hk; omega) (fun Z => k0_pay19 (F := Ideal) Z) (fun Z r l => by pointwise [k0_pay19]) x
  · exact key 832 896 inb_S1536x2048_S64x2048_832_0 inb_S1536x2048_S64x2048_896_0 (by intro k hk; omega) (fun Z => k0_pay18 (F := Ideal) Z) (fun Z r l => by pointwise [k0_pay18]) x
  · exact key 768 640 inb_S1536x2048_S64x2048_768_0 inb_S1536x2048_S64x2048_640_0 (by intro k hk; omega) (fun Z => k0_pay17 (F := Ideal) Z) (fun Z r l => by pointwise [k0_pay17]) x
  · exact key 704 832 inb_S1536x2048_S64x2048_704_0 inb_S1536x2048_S64x2048_832_0 (by intro k hk; omega) (fun Z => k0_pay16 (F := Ideal) Z) (fun Z r l => by pointwise [k0_pay16]) x
  · exact key 640 576 inb_S1536x2048_S64x2048_640_0 inb_S1536x2048_S64x2048_576_0 (by intro k hk; omega) (fun Z => k0_pay15 (F := Ideal) Z) (fun Z r l => by pointwise [k0_pay15]) x
  · exact key 576 768 inb_S1536x2048_S64x2048_576_0 inb_S1536x2048_S64x2048_768_0 (by intro k hk; omega) (fun Z => k0_pay14 (F := Ideal) Z) (fun Z r l => by pointwise [k0_pay14]) x
  · exact key 512 512 inb_S1536x2048_S64x2048_512_0 inb_S1536x2048_S64x2048_512_0 (by intro k hk; omega) (fun Z => k0_pay13 (F := Ideal) Z) (fun Z r l => by pointwise [k0_pay13]) x
  · exact key 448 448 inb_S1536x2048_S64x2048_448_0 inb_S1536x2048_S64x2048_448_0 (by intro k hk; omega) (fun Z => k0_pay12 (F := Ideal) Z) (fun Z r l => by pointwise [k0_pay12]) x
  · exact key 384 192 inb_S1536x2048_S64x2048_384_0 inb_S1536x2048_S64x2048_192_0 (by intro k hk; omega) (fun Z => k0_pay11 (F := Ideal) Z) (fun Z r l => by pointwise [k0_pay11]) x
  · exact key 320 384 inb_S1536x2048_S64x2048_320_0 inb_S1536x2048_S64x2048_384_0 (by intro k hk; omega) (fun Z => k0_pay10 (F := Ideal) (k0_pay9 Z)) (fun Z r l => by pointwise [k0_pay10, k0_pay9]) x
  · exact key 256 128 inb_S1536x2048_S64x2048_256_0 inb_S1536x2048_S64x2048_128_0 (by intro k hk; omega) (fun Z => k0_pay8 (F := Ideal) Z) (fun Z r l => by pointwise [k0_pay8]) x
  · exact key 192 320 inb_S1536x2048_S64x2048_192_0 inb_S1536x2048_S64x2048_320_0 (by intro k hk; omega) (fun Z => k0_pay7 (F := Ideal) Z) (fun Z r l => by pointwise [k0_pay7]) x
  · exact key 128 64 inb_S1536x2048_S64x2048_128_0 inb_S1536x2048_S64x2048_64_0 (by intro k hk; omega) (fun Z => k0_pay6 (F := Ideal) Z) (fun Z r l => by pointwise [k0_pay6]) x
  · exact key 64 256 inb_S1536x2048_S64x2048_64_0 inb_S1536x2048_S64x2048_256_0 (by intro k hk; omega) (fun Z => k0_pay5 (F := Ideal) Z) (fun Z r l => by pointwise [k0_pay5]) x
  · exact key 0 0 inb_S1536x2048_S64x2048_0_0 inb_S1536x2048_S64x2048_0_0 (by intro k hk; omega) (fun Z => k0_pay4 (F := Ideal) Z) (fun Z r l => by pointwise [k0_pay4]) x

/-! What a point writes, at an index. -/

theorem uOf_apply (x : FVec Ideal S512x2048 .f32) (g : FVec Ideal S1x2048 .f32) (r : Fin 512) (l : Fin 2048) :
    uOf (F := Ideal) x g (ix2 r l) = Shr.rms (fun k => x (ix2 r k)) (g (ix2 0 l)) l := by
  unfold uOf
  rw [View.canon_cons_unit_lit _ _ _ (by decide)]
  refine (pay23_apply _ _ r l).trans (Shr.rms_congr (fun k => ?_) ?_ l)
  · exact Shr.ld2 (Val := Elt Ideal) (e := .f32) x _ r k r k (Nat.zero_add _).symm (Nat.zero_add _).symm
  · exact Shr.ld2 (Val := Elt Ideal) (e := .f32) g _ 0 l 0 l (Nat.zero_add _).symm (Nat.zero_add _).symm

theorem qkvOf_apply (x : FVec Ideal S512x2048 .f32) (g : FVec Ideal S1x2048 .f32) (w : FVec Ideal S1536x2048 .bf16) (r : Fin 512) (l : Fin 1536) :
    qkvOf (F := Ideal) x g w (ix2 r l) = ∑ k : Fin 2048, Shr.rms (fun k => x (ix2 r k)) (g (ix2 0 k)) k * w (ix2 l k) := by
  unfold qkvOf
  rw [View.canon_cons_unit_lit _ _ _ (by decide)]
  refine (pay24_apply _ _ _ r l).trans (Fin.sum_fin_congr fun k => Ideal.mul_congr (Shr.rms_congr (fun k => ?_) ?_ k) ?_)
  · exact Shr.ld2 (Val := Elt Ideal) (e := .f32) x _ r k r k (Nat.zero_add _).symm (Nat.zero_add _).symm
  · exact Shr.ld2 (Val := Elt Ideal) (e := .f32) g _ 0 k 0 k (Nat.zero_add _).symm (Nat.zero_add _).symm
  · exact Shr.ld2 (Val := Elt Ideal) (e := .bf16) w _ l k l k (Nat.zero_add _).symm (Nat.zero_add _).symm

theorem dtOf_apply (x : FVec Ideal S512x2048 .f32) (g : FVec Ideal S1x2048 .f32) (w : FVec Ideal S128x2048 .f32) (r : Fin 512) (l : Fin 128) :
    dtOf (F := Ideal) x g w (ix2 r l) = ∑ k : Fin 2048, Shr.rms (fun k => x (ix2 r k)) (g (ix2 0 k)) k * w (ix2 l k) := by
  unfold dtOf
  rw [View.canon_cons_unit_lit _ _ _ (by decide)]
  refine (pay3_apply _ _ r l).trans (Fin.sum_fin_congr fun k => Ideal.mul_congr ((pay23_apply _ _ r k).trans (Shr.rms_congr (fun k => ?_) ?_ k)) ?_)
  · exact Shr.ld2 (Val := Elt Ideal) (e := .f32) x _ r k r k (Nat.zero_add _).symm (Nat.zero_add _).symm
  · exact Shr.ld2 (Val := Elt Ideal) (e := .f32) g _ 0 k 0 k (Nat.zero_add _).symm (Nat.zero_add _).symm
  · exact Shr.ld2 (Val := Elt Ideal) (e := .f32) w _ l k l k (Nat.zero_add _).symm (Nat.zero_add _).symm

/-- An angle a point reads, at an index. -/
theorem ang_apply (p : IVec S128x128 32) (f : FVec Ideal S1x128 .f32) (r : Fin 128) (l : Fin 128) :
    k0_pay25 (F := Ideal) (View.ld (Val := Elt Ideal) (e' := .i32) p rP) (View.ld (Val := Elt Ideal) (e' := .f32) f rI) (ix2 r l) = ang (p (ix2 r l)) (f (ix2 0 l)) := by
  refine (pay25_apply _ _ r l).trans ?_
  rw [show View.ld (Val := Elt Ideal) (e' := .i32) p rP (ix2 r l) = p (ix2 r l) from
      Shr.ld2 (Val := Elt Ideal) (e := .i32) p _ r l r l (Nat.zero_add _).symm (Nat.zero_add _).symm,
    show View.ld (Val := Elt Ideal) (e' := .f32) f rI (ix2 0 l) = f (ix2 0 l) from
      Shr.ld2 (Val := Elt Ideal) (e := .f32) f _ 0 l 0 l (Nat.zero_add _).symm (Nat.zero_add _).symm]

theorem cosOf_apply (p : IVec S128x128 32) (f : FVec Ideal S1x128 .f32) (y : S512x128.Idx) (r l : Fin 128)
    (hr : r.val = (y 0).val / 4) (hl : l.val = 32 * ((y 0).val % 4) + (y 1).val % 32) :
    cosOf (F := Ideal) p f y = FloatOps.cos (ang (p (ix2 r l)) (f (ix2 0 l))) := by
  obtain rfl : r = ⟨(y 0).val / 4, b4 y⟩ := Fin.ext hr
  obtain rfl : l = ⟨32 * ((y 0).val % 4) + (y 1).val % 32, b32 y⟩ := Fin.ext hl
  unfold cosOf
  refine (cosL_apply _ y).trans ?_
  exact congrArg FloatOps.cos (ang_apply p f _ _)

theorem sinOf_apply (p : IVec S128x128 32) (f g : FVec Ideal S1x128 .f32) (y : S512x128.Idx) (r l n : Fin 128)
    (hr : r.val = (y 0).val / 4) (hl : l.val = 32 * ((y 0).val % 4) + (y 1).val % 32) (hn : n.val = (y 1).val) :
    sinOf (F := Ideal) p f g y = FloatOps.sin (ang (p (ix2 r l)) (f (ix2 0 l))) * g (ix2 0 n) := by
  obtain rfl : r = ⟨(y 0).val / 4, b4 y⟩ := Fin.ext hr
  obtain rfl : l = ⟨32 * ((y 0).val % 4) + (y 1).val % 32, b32 y⟩ := Fin.ext hl
  obtain rfl : n = ⟨(y 1).val, (y 1).isLt⟩ := Fin.ext hn
  unfold sinOf
  refine (sinL_apply _ _ y).trans (Ideal.mul_congr ?_ ?_)
  · exact congrArg FloatOps.sin (ang_apply p f _ _)
  · exact Shr.ld2 (Val := Elt Ideal) (e := .f32) g _ 0 _ 0 _ (Nat.zero_add _).symm (Nat.zero_add _).symm

/-! Where the blocks lie, and the arrays they are read from. -/

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![6656, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The flattened rows, read at an index. -/
theorem arr0 (c : Dev nD) (e : S8192x2048.Idx) (q : Fin 8192) (l : Fin 2048) (h0 : (e 0 : Nat) = q) (h1 : (e 1 : Nat) = l) :
    (V m c main_v0 : FVec Ideal S8192x2048 .f32) e
      = (m ((c : Thread nD τ).loc main_arg0) : FVec Ideal S4x2048x2048 .f32) (ix3 ⟨q.val / 2048, by omega⟩ ⟨q.val % 2048, by omega⟩ l) := by
  entry_read
  obtain rfl := Shr.eq_ix2 e q l h0 h1
  pointwise

/-- The norm's weight, read at an index. -/
theorem arr1 (c : Dev nD) (e : S1x2048.Idx) (l : Fin 2048) (h0 : (e 0 : Nat) = (0 : Fin 1)) (h1 : (e 1 : Nat) = l) :
    (V m c main_v22 : FVec Ideal S1x2048 .f32) e = (m ((c : Thread nD τ).loc main_arg2) : FVec Ideal S1x2048 .f32) (ix2 0 l) := by
  entry_read
  obtain rfl := Shr.eq_ix2 e 0 l h0 h1
  pointwise

/-- The positions, four to a row and each in thirty-two lanes, read at an index. -/
theorem arr2 (c : Dev nD) (e : S2048x128.Idx) (r : Fin 2048) (l : Fin 128) (h0 : (e 0 : Nat) = r) (h1 : (e 1 : Nat) = l) :
    (V m c main_v3 : IVec S2048x128 32) e = (m ((c : Thread nD τ).loc main_arg1) : IVec S4x2048 32)
      (ix2 ⟨(4 * r.val + l.val / 32) / 2048, by omega⟩ ⟨(4 * r.val + l.val / 32) % 2048, by omega⟩) := by
  entry_read
  obtain rfl := Shr.eq_ix2 e r l h0 h1
  pointwise
  refine congrArg _ (Shr.eq_ix2 _ _ _ ?_ ?_)
  · show r.val / 512 = (4 * r.val + l.val / 32) / 2048
    omega
  · show r.val % 512 * 4 + l.val / 32 = (4 * r.val + l.val / 32) % 2048
    omega

/-- The transposed weights, read at an index. -/
theorem arr5 (c : Dev nD) (e : S10784x2048.Idx) (q : Fin 10784) (k : Fin 2048) (h0 : (e 0 : Nat) = q) (h1 : (e 1 : Nat) = k) :
    (V m c main_v5 : FVec Ideal S10784x2048 .f32) e
      = (m ((c : Thread nD τ).loc main_arg3) : FVec Ideal S1x2048x10784 .f32) (ix3 0 k q) := by
  entry_read
  obtain rfl := Shr.eq_ix2 e q k h0 h1
  pointwise

/-- Taking entries of an array of thirty-two at given places, read at an index. -/
theorem take_apply (x : FVec Ideal S32 .f32) (p : IVec S128x1 32) (l : Fin 128) (k : Fin 32) (h : (p (ix2 l 0)).toInt.toNat = k.val) :
    Host.gather gather_S32_S128x1_S128_n_0_n_n_0_1_1 x p (ix1 l) = x (ix1 k) := by
  unfold Host.gather
  refine congrArg x ?_
  funext a
  obtain rfl : a = 0 := Subsingleton.elim _ _
  refine Fin.ext ?_
  show gather_S32_S128x1_S128_n_0_n_n_0_1_1.start (ix1 l) p 0 + gather_S32_S128x1_S128_n_0_n_n_0_1_1.batchCoord (ix1 l) 0
    + gather_S32_S128x1_S128_n_0_n_n_0_1_1.offCoord (ix1 l) 0 = k.val
  rw [GatherDims.batchCoord_eq_zero _ _ _ List.not_mem_nil,
    GatherDims.offCoord_eq_zero _ _ _ fun h => ((GatherDims.mem_sKept _ _).mp h).1 (List.mem_singleton.mpr rfl), Nat.add_zero]
  have hp : gather_S32_S128x1_S128_n_0_n_n_0_1_1.siIdx (ix1 l) ⟨0, by decide⟩ = ix2 l 0 := by
    funext b
    match b with
    | ⟨0, _⟩ => rfl
    | ⟨1, _⟩ => rfl
  unfold GatherDims.start
  rw [dif_pos (show (0 : Fin 1) ∈ gather_S32_S128x1_S128_n_0_n_n_0_1_1.startIndexMap from List.mem_singleton.mpr rfl)]
  refine (congrArg (fun z => min (p z).toInt.toNat 31) hp).trans ?_
  show min (p (ix2 l 0)).toInt.toNat 31 = k.val
  rw [h]
  have := k.isLt
  omega

/-- The frequencies of the lanes: each lane has the frequency of its place in its group of thirty-two. -/
theorem arr3 (c : Dev nD) (e : S1x128.Idx) (l : Fin 128) (h0 : (e 0 : Nat) = (0 : Fin 1)) (h1 : (e 1 : Nat) = l) :
    (V m c main_v19 : FVec Ideal S1x128 .f32) e = Cert.PrepRefIdeal.Read.val_main_v26 (F := Ideal) (ix1 ⟨l.val % 32, by omega⟩) := by
  have hl : ∀ l : Fin 128, (lit0 (S128.rowMajor (ix1 l))).toInt.toNat = l.val % 32 := by decide +kernel
  entry_read
  obtain rfl := Shr.eq_ix2 e 0 l h0 h1
  pointwise
  refine (take_apply _ _ l ⟨l.val % 32, by omega⟩ ?_).trans rfl
  pointwise
  exact hl l

/-- The sign of a lane. -/
def sgn (l : Fin 128) : Ideal .f32 := Ideal.ofBits .f32 (if l.val % 64 < 32 then 0xBF800000#32 else 0x3F800000#32)

theorem mul_sgn (x : Ideal .f32) (l : Fin 128) : x * sgn l = if l.val % 64 < 32 then -x else x := by
  have h1 : Ideal.ofBits .f32 0xBF800000#32 = -1 := IdealRules.sign_bit.ideal_negOnePat .f32
  unfold sgn
  split
  · rw [h1]; exact mul_neg_one (α := EReal) x
  · rw [Ideal.ofBits_one_f32]; exact mul_one (M := EReal) x

/-- The lanes' signs, read at an index. -/
theorem arr4 (c : Dev nD) (e : S1x128.Idx) (l : Fin 128) (h0 : (e 0 : Nat) = (0 : Fin 1)) (h1 : (e 1 : Nat) = l) :
    (V m c main_v20 : FVec Ideal S1x128 .f32) e = sgn l := by
  have hl : ∀ l : Fin 128, lit1 (S128.rowMajor (ix1 l)) = if l.val % 64 < 32 then 0xBF800000#32 else 0x3F800000#32 := by decide +kernel
  entry_read
  obtain rfl := Shr.eq_ix2 e 0 l h0 h1
  pointwise
  exact congrArg _ (hl l)

/-! The reference, at an index. -/

section Ref

open Cert.PrepRefIdeal.Read

theorem ref15 (x : FVec Ideal Cert.PrepRefIdeal.S4x2048x2048 .f32) (g : FVec Ideal Cert.PrepRefIdeal.S1x2048 .f32) (q : Fin 8192) (l : Fin 2048) :
    val_main_v15 (F := Ideal) x g (ix2 q l)
      = Shr.rms (fun k => x (ix3 ⟨q.val / 2048, by omega⟩ ⟨q.val % 2048, by omega⟩ k)) (g (ix2 0 l)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, Shr.rms]

theorem ref18 (x : FVec Ideal Cert.PrepRefIdeal.S4x2048x2048 .f32) (g : FVec Ideal Cert.PrepRefIdeal.S1x2048 .f32)
    (w : FVec Ideal Cert.PrepRefIdeal.S1x2048x10784 .f32) (q : Fin 8192) (n : Fin 10784) :
    val_main_v18 (F := Ideal) x g w (ix2 q n) = ∑ k : Fin 2048, val_main_v15 (F := Ideal) x g (ix2 q k) * w (ix3 0 k n) := by
  pointwise [val_main_v18, val_main_v16, val_main_v17]

theorem ref40 (x : FVec Ideal Cert.PrepRefIdeal.S4x2048x2048 .f32) (g : FVec Ideal Cert.PrepRefIdeal.S1x2048 .f32)
    (w : FVec Ideal Cert.PrepRefIdeal.S1x2048x10784 .f32) (q : Fin 8192) (n : Fin 128) :
    val_main_v40 (F := Ideal) x g w (ix2 q n) = val_main_v18 (F := Ideal) x g w (ix2 q ⟨6656 + n.val, by omega⟩) := by
  pointwise [val_main_v40]

theorem ref47 (x : FVec Ideal Cert.PrepRefIdeal.S4x2048x2048 .f32) (g : FVec Ideal Cert.PrepRefIdeal.S1x2048 .f32)
    (w : FVec Ideal Cert.PrepRefIdeal.S1x2048x10784 .f32) (q : Fin 8192) (n : Fin 1536) :
    val_main_v47 (F := Ideal) x g w (ix2 q n) = val_main_v18 (F := Ideal) x g w (ix2 q ⟨(src n).val, by omega⟩) := by
  pointwise [val_main_v47, val_main_v46, val_main_v45, val_main_v44, val_main_v43, val_main_v42, val_main_v41]
  have e : (src n).val = if n.val < 1024 then 512 * (n.val / 512) + 256 * (n.val / 64 % 2) + 64 * (n.val % 512 / 128) + n.val % 64 else n.val := rfl
  split
  · rename_i h
    refine congrArg (fun z => val_main_v18 (F := Ideal) x g w (ix2 q z)) (Fin.ext ?_)
    show n.val / 512 * 512 + n.val / 64 % 2 * 256 + n.val / 128 % 4 * 64 + n.val % 64 = (src n).val
    rw [e, if_pos h]
    omega
  · rename_i h
    refine congrArg (fun z => val_main_v18 (F := Ideal) x g w (ix2 q z)) (Fin.ext ?_)
    show 1024 + (n.val - 1024) = (src n).val
    rw [e, if_neg h]
    omega

theorem ref33 (p : IVec Cert.PrepRefIdeal.S4x2048 32) (q : Fin 8192) (k : Fin 32) :
    val_main_v33 (F := Ideal) p (ix2 q k) = ang (p (ix2 ⟨q.val / 2048, by omega⟩ ⟨q.val % 2048, by omega⟩)) (val_main_v26 (F := Ideal) (ix1 k)) := by
  unfold ang
  pointwise [val_main_v33, val_main_v32, val_main_v31, val_main_v30, val_main_v29, val_main_v28, val_main_v27]

theorem ref36 (p : IVec Cert.PrepRefIdeal.S4x2048 32) (q : Fin 8192) (n : Fin 128) :
    val_main_v36 (F := Ideal) p (ix2 q n) = (FloatOps.cos (φ := .f32) (show Ideal .f32 from val_main_v33 (F := Ideal) p (ix2 q ⟨n.val % 32, by omega⟩)) : Ideal .f32) := by
  have e : ∀ (k : Fin 32), k.val = n.val % 32 → Ideal.cos (val_main_v33 (F := Ideal) p (ix2 q k)) = Ideal.cos (val_main_v33 (F := Ideal) p (ix2 q ⟨n.val % 32, by omega⟩)) :=
    fun k h => congrArg (fun z => Ideal.cos (val_main_v33 (F := Ideal) p (ix2 q z))) (Fin.ext h)
  have hn := n.isLt
  pointwise [val_main_v36, val_main_v34]
  split
  · exact e _ (by show n.val = _; omega)
  split
  · exact e _ (by show n.val - 32 = _; omega)
  split
  · exact e _ (by show n.val - 32 - 32 = _; omega)
  · exact e _ (by show n.val - 32 - 32 - 32 = _; omega)

theorem ref39 (p : IVec Cert.PrepRefIdeal.S4x2048 32) (q : Fin 8192) (n : Fin 128) :
    val_main_v39 (F := Ideal) p (ix2 q n) = (FloatOps.sin (φ := .f32) (show Ideal .f32 from val_main_v33 (F := Ideal) p (ix2 q ⟨n.val % 32, by omega⟩)) : Ideal .f32) * sgn n := by
  have e : ∀ (k : Fin 32), k.val = n.val % 32 → Ideal.sin (val_main_v33 (F := Ideal) p (ix2 q k)) = Ideal.sin (val_main_v33 (F := Ideal) p (ix2 q ⟨n.val % 32, by omega⟩)) :=
    fun k h => congrArg (fun z => Ideal.sin (val_main_v33 (F := Ideal) p (ix2 q z))) (Fin.ext h)
  have hn := n.isLt
  refine Eq.trans ?_ (mul_sgn _ n).symm
  pointwise [val_main_v39, val_main_v38, val_main_v37, val_main_v35]
  split
  · refine Eq.trans ?_ (if_pos (show n.val % 64 < 32 by omega)).symm
    exact congrArg Neg.neg (e _ (by show n.val = _; omega))
  split
  · refine Eq.trans ?_ (if_neg (show ¬ n.val % 64 < 32 by omega)).symm
    exact e _ (by show n.val - 32 = _; omega)
  split
  · refine Eq.trans ?_ (if_pos (show n.val % 64 < 32 by omega)).symm
    exact congrArg Neg.neg (e _ (by show n.val - 32 - 32 = _; omega))
  · refine Eq.trans ?_ (if_neg (show ¬ n.val % 64 < 32 by omega)).symm
    exact e _ (by show n.val - 32 - 32 - 32 = _; omega)

end Ref

/-! The results. -/

/-- A row of a point's block is the row of the flattened input. -/
theorem row0 (c : Dev nD) (t : Fin cfg0.N) (r : Fin 512) (k : Fin 2048) (q : Fin 8192) (hq : (q : Nat) = 512 * t.val + r) :
    (show FVec Ideal S512x2048 .f32 from iblk m c 0 t) (ix2 r k)
      = (m ((c : Thread nD τ).loc main_arg0) : FVec Ideal S4x2048x2048 .f32) (ix3 ⟨q.val / 2048, by omega⟩ ⟨q.val % 2048, by omega⟩ k) := by
  refine arr0 m c (((cfg0.win 0).blk t).view.emb (ix2 r k)) q k ?_ ?_
  · blk_simp [idx t]
    change _ = (q : Nat)
    omega
  · blk_simp [idx t]

/-- The norm's weight in a point's block. -/
theorem gain (c : Dev nD) (t : Fin cfg0.N) (k : Fin 2048) :
    (show FVec Ideal S1x2048 .f32 from iblk m c 1 t) (ix2 0 k) = (m ((c : Thread nD τ).loc main_arg2) : FVec Ideal S1x2048 .f32) (ix2 0 k) := by
  refine arr1 m c (((cfg0.win 1).blk t).view.emb (ix2 0 k)) k ?_ ?_
  · blk_simp [idx t]
  · blk_simp [idx t]

/-- The columns read at an element offset: of the 128 from 6656 on. -/
theorem wdt (c : Dev nD) (t : Fin cfg0.N) (r : Fin 128) (k : Fin 2048) (q : Fin 10784) (hq : (q : Nat) = 6656 + r) :
    (show FVec Ideal S128x2048 .f32 from iblk m c 5 t) (ix2 r k)
      = (m ((c : Thread nD τ).loc main_arg3) : FVec Ideal S1x2048x10784 .f32) (ix3 0 k q) := by
  refine arr5 m c (((cfg0.win 5).blk t).view.emb (ix2 r k)) q k ?_ ?_
  · refine (Pipeline.Window.rect_emb_val_off win0_5 t (ix2 r k) 0).trans ?_
    have e := (idx t).2.2.2.2.2.1
    rw [e, hq]; rfl
  · refine (Pipeline.Window.rect_emb_val_off win0_5 t (ix2 r k) 1).trans ?_
    have e := (idx t).2.2.2.2.2.1
    rw [e]; exact Nat.zero_add _

/-- And of the 1536 from the first on. -/
theorem wqkv (c : Dev nD) (t : Fin cfg0.N) (r : Fin 1536) (k : Fin 2048) (q : Fin 10784) (hq : (q : Nat) = r) :
    (show FVec Ideal S1536x2048 .f32 from iblk m c 6 t) (ix2 r k)
      = (m ((c : Thread nD τ).loc main_arg3) : FVec Ideal S1x2048x10784 .f32) (ix3 0 k q) := by
  refine arr5 m c (((cfg0.win 6).blk t).view.emb (ix2 r k)) q k ?_ ?_
  · refine (Pipeline.Window.rect_emb_val_off win0_6 t (ix2 r k) 0).trans ?_
    have e := (idx t).2.2.2.2.2.2.1
    rw [e, hq]; exact Nat.zero_add _
  · refine (Pipeline.Window.rect_emb_val_off win0_6 t (ix2 r k) 1).trans ?_
    have e := (idx t).2.2.2.2.2.2.1
    rw [e]; exact Nat.zero_add _

/-- The position of a row of a point's block. -/
theorem pos (c : Dev nD) (t : Fin cfg0.N) (r l : Fin 128) (q : Fin 8192) (hq : (q : Nat) = 512 * t.val + 4 * r + l / 32) :
    (show IVec S128x128 32 from iblk m c 2 t) (ix2 r l)
      = (m ((c : Thread nD τ).loc main_arg1) : IVec S4x2048 32) (ix2 ⟨q.val / 2048, by omega⟩ ⟨q.val % 2048, by omega⟩) := by
  have ht : t.val < 16 := lt_of_lt_of_eq t.isLt N_0
  refine (arr2 m c (((cfg0.win 2).blk t).view.emb (ix2 r l)) ⟨128 * t.val + r, by omega⟩ l ?_ ?_).trans (congrArg _ (Shr.eq_ix2 _ _ _ ?_ ?_))
  · blk_simp [idx t]
    change _ = 128 * t.val + (r : Nat)
    omega
  · blk_simp [idx t]
  · show (4 * (128 * t.val + r.val) + l.val / 32) / 2048 = q.val / 2048
    rw [hq]; congr 1; omega
  · show (4 * (128 * t.val + r.val) + l.val / 32) % 2048 = q.val % 2048
    rw [hq]; congr 1; omega

/-- A row of the projection, in the reference and in a point's block. -/
theorem proj (c : Dev nD) (t : Fin cfg0.N) (r : Fin 512) (q : Fin 8192) (hq : (q : Nat) = 512 * t.val + r) (n : Fin 10784)
    (w : Fin 2048 → Ideal .f32) (hw : ∀ k, w k = (m ((c : Thread nD τ).loc main_arg3) : FVec Ideal S1x2048x10784 .f32) (ix3 0 k n)) :
    (∑ k : Fin 2048, Shr.rms (fun k => (show FVec Ideal S512x2048 .f32 from iblk m c 0 t) (ix2 r k)) ((show FVec Ideal S1x2048 .f32 from iblk m c 1 t) (ix2 0 k)) k * w k)
      = Cert.PrepRefIdeal.Read.val_main_v18 (F := Ideal) (m ((c : Thread nD τ).loc main_arg0)) (m ((c : Thread nD τ).loc main_arg2)) (m ((c : Thread nD τ).loc main_arg3)) (ix2 q n) := by
  refine Eq.trans ?_ (ref18 _ _ _ q n).symm
  refine Fin.sum_fin_congr fun k => Ideal.mul_congr ?_ (hw k)
  exact (Shr.rms_congr (fun l => row0 m c t r l q hq) (gain m c t k) k).trans (ref15 _ _ q k).symm

/-- The normed rows. -/
theorem final7 (c : Dev nD) : (dats m 0 c).arrAt 7 (cfgs 0).N = Cert.PrepRefIdeal.Read.val_main_v15 (F := Ideal) (m ((c : Thread nD τ).loc main_arg0)) (m ((c : Thread nD τ).loc main_arg2)) := by
  refine (dats m 0 c).arrAt_eq_of_covers 7 _ (by decide +kernel) fun t hf y => ?_
  blk_simp; rw [Hand.after0_7]
  have ht : t.val < 16 := lt_of_lt_of_eq t.isLt N_0
  idx_vars y
  refine (uOf_apply _ _ y0 y1).trans ?_
  refine Eq.trans ?_ (congrArg (Cert.PrepRefIdeal.Read.val_main_v15 (F := Ideal) (m ((c : Thread nD τ).loc main_arg0)) (m ((c : Thread nD τ).loc main_arg2))) (Shr.eq_ix2 _ ⟨512 * t.val + y0, by omega⟩ y1 ?_ ?_).symm)
  · exact (Shr.rms_congr (fun l => row0 m c t y0 l _ rfl) (gain m c t y1) y1).trans (ref15 _ _ _ y1).symm
  · blk_simp [idx t]
    change _ = 512 * t.val + (y0 : Nat)
    omega
  · blk_simp [idx t]

/-- The gates' columns. -/
theorem final10 (c : Dev nD) : (dats m 0 c).arrAt 10 (cfgs 0).N = Cert.PrepRefIdeal.Read.val_main_v40 (F := Ideal) (m ((c : Thread nD τ).loc main_arg0)) (m ((c : Thread nD τ).loc main_arg2)) (m ((c : Thread nD τ).loc main_arg3)) := by
  refine (dats m 0 c).arrAt_eq_of_covers 10 _ (by decide +kernel) fun t hf y => ?_
  blk_simp; rw [Hand.after0_10]
  have ht : t.val < 16 := lt_of_lt_of_eq t.isLt N_0
  idx_vars y
  refine (dtOf_apply _ _ _ y0 y1).trans ?_
  refine Eq.trans ?_ (congrArg (Cert.PrepRefIdeal.Read.val_main_v40 (F := Ideal) (m ((c : Thread nD τ).loc main_arg0)) (m ((c : Thread nD τ).loc main_arg2)) (m ((c : Thread nD τ).loc main_arg3))) (Shr.eq_ix2 _ ⟨512 * t.val + y0, by omega⟩ y1 ?_ ?_).symm)
  · refine Eq.trans ?_ (ref40 _ _ _ _ y1).symm
    exact proj m c t y0 _ rfl _ _ fun k => wdt m c t y1 k _ rfl
  · blk_simp [idx t]
    change _ = 512 * t.val + (y0 : Nat)
    omega
  · blk_simp [idx t]

/-- The columns of the queries, keys and values. -/
theorem final11 (c : Dev nD) : (dats m 0 c).arrAt 11 (cfgs 0).N = Cert.PrepRefIdeal.Read.val_main_v47 (F := Ideal) (m ((c : Thread nD τ).loc main_arg0)) (m ((c : Thread nD τ).loc main_arg2)) (m ((c : Thread nD τ).loc main_arg3)) := by
  refine (dats m 0 c).arrAt_eq_of_covers 11 _ (by decide +kernel) fun t hf y => ?_
  blk_simp; rw [Hand.after0_11]
  have ht : t.val < 16 := lt_of_lt_of_eq t.isLt N_0
  idx_vars y
  refine (qkvOf_apply _ _ _ y0 y1).trans ?_
  refine Eq.trans ?_ (congrArg (Cert.PrepRefIdeal.Read.val_main_v47 (F := Ideal) (m ((c : Thread nD τ).loc main_arg0)) (m ((c : Thread nD τ).loc main_arg2)) (m ((c : Thread nD τ).loc main_arg3))) (Shr.eq_ix2 _ ⟨512 * t.val + y0, by omega⟩ y1 ?_ ?_).symm)
  · refine Eq.trans ?_ (ref47 _ _ _ _ y1).symm
    refine proj m c t y0 _ rfl _ _ fun k => ?_
    unfold round0
    exact (roundOf_apply _ (ix2 y1 k)).trans (wqkv m c t0_0 (src y1) k _ rfl)
  · blk_simp [idx t]
    change _ = 512 * t.val + (y0 : Nat)
    omega
  · blk_simp [idx t]

/-- An angle, in the reference and in a point's block. -/
theorem angle (c : Dev nD) (t : Fin cfg0.N) (r l : Fin 128) (q : Fin 8192) (hq : (q : Nat) = 512 * t.val + 4 * r + l / 32) (k : Fin 32) (hk : (k : Nat) = l % 32) :
    ang ((show IVec S128x128 32 from iblk m c 2 t) (ix2 r l)) ((show FVec Ideal S1x128 .f32 from iblk m c 3 t) (ix2 0 l))
      = Cert.PrepRefIdeal.Read.val_main_v33 (F := Ideal) (m ((c : Thread nD τ).loc main_arg1)) (ix2 q k) := by
  refine Eq.trans ?_ (ref33 _ q k).symm
  rw [pos m c t r l q hq]
  refine congrArg (ang _) ?_
  refine (arr3 m c (((cfg0.win 3).blk t).view.emb (ix2 0 l)) l ?_ ?_).trans (congrArg (fun z => Cert.PrepRefIdeal.Read.val_main_v26 (F := Ideal) (ix1 z)) (Fin.ext hk.symm))
  · blk_simp [idx t]
  · blk_simp [idx t]

/-- The table of cosines. -/
theorem final8 (c : Dev nD) : (dats m 0 c).arrAt 8 (cfgs 0).N = Cert.PrepRefIdeal.Read.val_main_v36 (F := Ideal) (m ((c : Thread nD τ).loc main_arg1)) := by
  refine (dats m 0 c).arrAt_eq_of_covers 8 _ (by decide +kernel) fun t hf y => ?_
  blk_simp; rw [Hand.after0_8]
  have ht : t.val < 16 := lt_of_lt_of_eq t.isLt N_0
  idx_vars y
  refine (cosOf_apply _ _ (ix2 y0 y1) ⟨y0.val / 4, by omega⟩ ⟨32 * (y0.val % 4) + y1.val % 32, by omega⟩ rfl rfl).trans ?_
  refine Eq.trans ?_ (congrArg (Cert.PrepRefIdeal.Read.val_main_v36 (F := Ideal) (m ((c : Thread nD τ).loc main_arg1))) (Shr.eq_ix2 _ ⟨512 * t.val + y0, by omega⟩ y1 ?_ ?_).symm)
  · refine Eq.trans ?_ (ref36 _ _ y1).symm
    refine congrArg (FloatOps.cos (F := Ideal) (φ := .f32)) (angle m c t _ _ _ ?_ _ ?_)
    · show 512 * t.val + y0.val = 512 * t.val + 4 * (y0.val / 4) + (32 * (y0.val % 4) + y1.val % 32) / 32
      omega
    · show y1.val % 32 = (32 * (y0.val % 4) + y1.val % 32) % 32
      omega
  · blk_simp [idx t]
    change _ = 512 * t.val + (y0 : Nat)
    omega
  · blk_simp [idx t]

/-- The table of sines. -/
theorem final9 (c : Dev nD) : (dats m 0 c).arrAt 9 (cfgs 0).N = Cert.PrepRefIdeal.Read.val_main_v39 (F := Ideal) (m ((c : Thread nD τ).loc main_arg1)) := by
  refine (dats m 0 c).arrAt_eq_of_covers 9 _ (by decide +kernel) fun t hf y => ?_
  blk_simp; rw [Hand.after0_9]
  have ht : t.val < 16 := lt_of_lt_of_eq t.isLt N_0
  idx_vars y
  refine (sinOf_apply _ _ _ (ix2 y0 y1) ⟨y0.val / 4, by omega⟩ ⟨32 * (y0.val % 4) + y1.val % 32, by omega⟩ y1 rfl rfl rfl).trans ?_
  refine Eq.trans ?_ (congrArg (Cert.PrepRefIdeal.Read.val_main_v39 (F := Ideal) (m ((c : Thread nD τ).loc main_arg1))) (Shr.eq_ix2 _ ⟨512 * t.val + y0, by omega⟩ y1 ?_ ?_).symm)
  · refine Eq.trans ?_ (ref39 _ _ y1).symm
    refine Ideal.mul_congr (congrArg (FloatOps.sin (F := Ideal) (φ := .f32)) (angle m c t _ _ _ ?_ _ ?_)) ?_
    · show 512 * t.val + y0.val = 512 * t.val + 4 * (y0.val / 4) + (32 * (y0.val % 4) + y1.val % 32) / 32
      omega
    · show y1.val % 32 = (32 * (y0.val % 4) + y1.val % 32) % 32
      omega
    · refine arr4 m c (((cfg0.win 4).blk t).view.emb (ix2 0 y1)) y1 ?_ ?_
      · blk_simp [idx t]
      · blk_simp [idx t]
  · blk_simp [idx t]
    change _ = 512 * t.val + (y0 : Nat)
    omega
  · blk_simp [idx t]

/-- The run of the call, its results named by the reference. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v23_0) = Cert.PrepRefIdeal.Read.val_main_v15 (F := Ideal) (m ((c.tc : Thread nD τ).loc main_arg0)) (m ((c.tc : Thread nD τ).loc main_arg2))
      ∧ r.2.mem ((c.tc : Thread nD τ).loc main_v23_1) = Cert.PrepRefIdeal.Read.val_main_v36 (F := Ideal) (m ((c.tc : Thread nD τ).loc main_arg1))
      ∧ r.2.mem ((c.tc : Thread nD τ).loc main_v23_2) = Cert.PrepRefIdeal.Read.val_main_v39 (F := Ideal) (m ((c.tc : Thread nD τ).loc main_arg1))
      ∧ r.2.mem ((c.tc : Thread nD τ).loc main_v23_3) = Cert.PrepRefIdeal.Read.val_main_v40 (F := Ideal) (m ((c.tc : Thread nD τ).loc main_arg0)) (m ((c.tc : Thread nD τ).loc main_arg2)) (m ((c.tc : Thread nD τ).loc main_arg3))
      ∧ r.2.mem ((c.tc : Thread nD τ).loc main_v23_4) = Cert.PrepRefIdeal.Read.val_main_v47 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => by
    have hw := (h.1 c).1
    exact ⟨(hw 7).trans (final7 m c), (hw 8).trans (final8 m c), (hw 9).trans (final9 m c), (hw 10).trans (final10 m c),
      (hw 11).trans (final11 m c), h.2 c⟩)
    (θ_run_and (run_main m ρ) (frame_of m ρ (dats m) (A_eq m) (run_main m ρ)))

/-- The reference's run, its results named. -/
theorem refRun (m : (ℓ : Loc Cert.PrepRefIdeal.nD Cert.PrepRefIdeal.τ Cert.PrepRefIdeal.sig) → Buf (Elt Ideal) ℓ) (ρ : Dev Cert.PrepRefIdeal.nD → PrngReg) :
    θ_run (Cert.PrepRefIdeal.defs (F := Ideal)) (onTc (τ := Cert.PrepRefIdeal.τ) (Cert.PrepRefIdeal.main (F := Ideal))) ⟨m, fun _ => 0, ρ⟩ fun r => ∀ c : Dev Cert.PrepRefIdeal.nD,
      r.2.mem ((c.tc : Thread Cert.PrepRefIdeal.nD Cert.PrepRefIdeal.τ).loc Cert.PrepRefIdeal.main_v15) = Cert.PrepRefIdeal.Read.val_main_v15 (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg2))
      ∧ r.2.mem ((c.tc : Thread Cert.PrepRefIdeal.nD Cert.PrepRefIdeal.τ).loc Cert.PrepRefIdeal.main_v36) = Cert.PrepRefIdeal.Read.val_main_v36 (F := Ideal) (m ((c.tc : Thread Cert.PrepRefIdeal.nD Cert.PrepRefIdeal.τ).loc Cert.PrepRefIdeal.main_arg1))
      ∧ r.2.mem ((c.tc : Thread Cert.PrepRefIdeal.nD Cert.PrepRefIdeal.τ).loc Cert.PrepRefIdeal.main_v39) = Cert.PrepRefIdeal.Read.val_main_v39 (F := Ideal) (m ((c.tc : Thread Cert.PrepRefIdeal.nD Cert.PrepRefIdeal.τ).loc Cert.PrepRefIdeal.main_arg1))
      ∧ r.2.mem ((c.tc : Thread Cert.PrepRefIdeal.nD Cert.PrepRefIdeal.τ).loc Cert.PrepRefIdeal.main_v40) = Cert.PrepRefIdeal.Read.val_main_v40 (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3))
      ∧ r.2.mem ((c.tc : Thread Cert.PrepRefIdeal.nD Cert.PrepRefIdeal.τ).loc Cert.PrepRefIdeal.main_v47) = Cert.PrepRefIdeal.Read.val_main_v47 (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3))
      ∧ r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3) :=
  (θ_run _ _ _).mono (fun r h c => by
    obtain ⟨h0, h1, h2, h3, h4, hr⟩ := h c
    exact ⟨h0.trans (Cert.PrepRefIdeal.Read.val_main_v15_eq _ _), h1.trans (Cert.PrepRefIdeal.Read.val_main_v36_eq _),
      h2.trans (Cert.PrepRefIdeal.Read.val_main_v39_eq _), h3.trans (Cert.PrepRefIdeal.Read.val_main_v40_eq _ _ _),
      h4.trans (Cert.PrepRefIdeal.Read.val_main_v47_eq _ _ _), hr⟩) (Cert.PrepRefIdeal.Value.run m ρ)

end Cert.PrepVal

end
-- ==== Proof.lean ====
/- The claim: each program's frame, each idealisation, and each kernel against its reference over the extended reals. -/
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.InprojValue
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.MergeValue
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Run
public import proofs.«01_k».proof.Proof.Gen.OprojRefIdeal.Read
public import proofs.«01_k».proof.Proof.OprojValue
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.FfnUpValue
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.PleValue
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.FfnDownFrame
public import proofs.«01_k».proof.Proof.FfnDownValue
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.PrepFrame
public import proofs.«01_k».proof.Proof.PrepValue
public import Idealize.ShloMosaic.Adequacy
public import Idealize.ShloMosaic.Init

@[expose] public section

noncomputable section

namespace Cert.Proof

open Idealize.ShloMosaic Idealize.SL.Sem

/-- The input projection's results are its reference's. -/
theorem algInproj : Cert.algebraic_InprojIdeal_InprojRefIdeal (hInprojIdeal := Cert.InprojIdeal.Gen.facts)
    (hInprojRefIdeal := Cert.InprojRefIdeal.Gen.facts) := by
  pair_intro
  · run_from Cert.InprojIdeal.Gen.run_main m g
  · run_from Cert.InprojRefIdeal.Value.run m' g'
    · exact (Cert.InprojVal.final4 m c).symm
    · exact (Cert.InprojVal.final5 m c).symm
    · exact (Cert.InprojVal.final6 m c).symm

/-- The merge of the branches is its reference. -/
theorem algMerge : Cert.algebraic_MergeIdeal_MergeRefIdeal (hMergeIdeal := Cert.MergeIdeal.Gen.facts)
    (hMergeRefIdeal := Cert.MergeRefIdeal.Gen.facts) := by
  pair_intro
  · run_from Cert.MergeIdeal.Gen.run_main m g
  · run_from Cert.MergeRefIdeal.Value.run m' g'
    exact (Cert.MergeVal.final6 m c).symm

/-- The output projection's results are its reference's. -/
theorem algOproj : Cert.algebraic_OprojIdeal_OprojRefIdeal (hOprojIdeal := Cert.OprojIdeal.Gen.facts)
    (hOprojRefIdeal := Cert.OprojRefIdeal.Gen.facts) := by
  pair_intro
  · run_from Cert.OprojIdeal.Gen.run_main m g
  · run_from Cert.OprojRefIdeal.Value.run m' g'
    · exact (Cert.OprojVal.final4 m c).symm
    · exact (Cert.OprojVal.final5 m c).symm

/-- The first half of the feed-forward part is its reference. -/
theorem algFfnUp : Cert.algebraic_FfnUpIdeal_FfnUpRefIdeal (hFfnUpIdeal := Cert.FfnUpIdeal.Gen.facts)
    (hFfnUpRefIdeal := Cert.FfnUpRefIdeal.Gen.facts) := by
  pair_intro
  · run_from Cert.FfnUpIdeal.Gen.run_main m g
  · run_from Cert.FfnUpRefIdeal.Value.run m' g'
    exact (Cert.FfnUpVal.final3 m c).symm

/-- The layer's last call is its reference. -/
theorem algPle : Cert.algebraic_PleIdeal_PleRefIdeal (hPleIdeal := Cert.PleIdeal.Gen.facts)
    (hPleRefIdeal := Cert.PleRefIdeal.Gen.facts) := by
  pair_intro
  · run_from Cert.PleIdeal.Gen.run_main m g
  · run_from Cert.PleRefIdeal.Value.run m' g'
    refine (Cert.PleRefIdeal.Read.val_main_v40_eq m' c).trans ?_
    obtain ⟨e0, e1, e2, e3, e4, e5⟩ := hagree c
    rw [e0, e1, e2, e3, e4, e5]
    exact (Cert.PleVal.final6 m c).symm

/-- The second half of the feed-forward part is its reference. -/
theorem algFfnDown : Cert.algebraic_FfnDownIdeal_FfnDownRefIdeal (hFfnDownIdeal := Cert.FfnDownIdeal.Gen.facts)
    (hFfnDownRefIdeal := Cert.FfnDownRefIdeal.Gen.facts) := by
  pair_intro
  · run_from Cert.FfnDownIdeal.Hand.run_main m g
  · run_from Cert.FfnDownRefIdeal.Value.run m' g'
    exact (Cert.FfnDownVal.final2 m c).symm

/-- The first call's results are its reference's. -/
theorem algPrep : Cert.algebraic_PrepIdeal_PrepRefIdeal (hPrepIdeal := Cert.PrepIdeal.Gen.facts)
    (hPrepRefIdeal := Cert.PrepRefIdeal.Gen.facts) := by
  intro m g m' g' _ hagree
  refine ⟨_, _, _, _, _, Cert.PrepVal.run m g, (θ_run _ _ _).mono (fun r h c => ?_) (Cert.PrepVal.refRun m' g')⟩
  obtain ⟨e0, e1, e2, e3⟩ := hagree c
  obtain ⟨h0, h1, h2, h3, h4, hr⟩ := h c
  exact ⟨h0.trans (by rw [e0, e2]), h1.trans (by rw [e1]), h2.trans (by rw [e1]), h3.trans (by rw [e0, e2, e3]), h4.trans (by rw [e0, e2, e3]), hr⟩

theorem claim : Cert.Claim := ⟨Cert.Inproj.Gen.facts,
  Cert.InprojIdeal.Gen.facts,
  Cert.InprojRefIdeal.Gen.facts,
  Cert.Merge.Gen.facts,
  Cert.MergeIdeal.Gen.facts,
  Cert.MergeRefIdeal.Gen.facts,
  Cert.Oproj.Gen.facts,
  Cert.OprojIdeal.Gen.facts,
  Cert.OprojRefIdeal.Gen.facts,
  Cert.FfnUp.Gen.facts,
  Cert.FfnUpIdeal.Gen.facts,
  Cert.FfnUpRefIdeal.Gen.facts,
  Cert.Ple.Gen.facts,
  Cert.PleIdeal.Gen.facts,
  Cert.PleRefIdeal.Gen.facts,
  Cert.Attn.Gen.facts,
  Cert.AttnIdeal.Gen.facts,
  Cert.FfnDown.Gen.facts,
  Cert.FfnDownIdeal.Gen.facts,
  Cert.FfnDownRefIdeal.Gen.facts,
  Cert.Prep.Gen.facts,
  Cert.PrepIdeal.Gen.facts,
  Cert.PrepRefIdeal.Gen.facts,
  fun m ρ _ => Cert.Inproj.Gen.frame m ρ,
  fun m ρ _ => Cert.InprojIdeal.Gen.frame m ρ,
  fun m ρ _ => (θ_run _ _ _).mono (fun r h => ⟨fun c => (h c).2.2.2, sem_eq_zero_of_no_sems (by decide) r.2⟩)
    (Cert.InprojRefIdeal.Value.run m ρ),
  fun m ρ _ => Cert.Merge.Gen.frame m ρ,
  fun m ρ _ => Cert.MergeIdeal.Gen.frame m ρ,
  fun m ρ _ => (θ_run _ _ _).mono (fun r h => ⟨fun c => (h c).2, sem_eq_zero_of_no_sems (by decide) r.2⟩)
    (Cert.MergeRefIdeal.Value.run m ρ),
  fun m ρ _ => Cert.Oproj.Gen.frame m ρ,
  fun m ρ _ => Cert.OprojIdeal.Gen.frame m ρ,
  fun m ρ _ => (θ_run _ _ _).mono (fun r h => ⟨fun c => (h c).2.2, sem_eq_zero_of_no_sems (by decide) r.2⟩)
    (Cert.OprojRefIdeal.Value.run m ρ),
  fun m ρ _ => Cert.FfnUp.Gen.frame m ρ,
  fun m ρ _ => Cert.FfnUpIdeal.Gen.frame m ρ,
  fun m ρ _ => (θ_run _ _ _).mono (fun r h => ⟨fun c => (h c).2, sem_eq_zero_of_no_sems (by decide) r.2⟩)
    (Cert.FfnUpRefIdeal.Value.run m ρ),
  fun m ρ _ => Cert.Ple.Gen.frame m ρ,
  fun m ρ _ => Cert.PleIdeal.Gen.frame m ρ,
  fun m ρ _ => (θ_run _ _ _).mono (fun r h => ⟨fun c => (h c).2, sem_eq_zero_of_no_sems (by decide) r.2⟩)
    (Cert.PleRefIdeal.Value.run m ρ),
  fun m ρ _ => Cert.Attn.Gen.frame m ρ,
  fun m ρ _ => Cert.AttnIdeal.Gen.frame m ρ,
  fun m ρ _ => Cert.FfnDown.Hand.frame m ρ,
  fun m ρ _ => Cert.FfnDownIdeal.Hand.frame m ρ,
  fun m ρ _ => (θ_run _ _ _).mono (fun r h => ⟨fun c => (h c).2, sem_eq_zero_of_no_sems (by decide) r.2⟩)
    (Cert.FfnDownRefIdeal.Value.run m ρ),
  fun m ρ _ => Cert.Prep.Hand.frame m ρ,
  fun m ρ _ => Cert.PrepIdeal.Hand.frame m ρ,
  fun m ρ _ => (θ_run _ _ _).mono (fun r h => ⟨fun c => (h c).2.2.2.2.2, sem_eq_zero_of_no_sems (by decide) r.2⟩)
    (Cert.PrepRefIdeal.Value.run m ρ),
  trivial,
  algInproj,
  IdealRules.named_const.statement Cert.MergeIdeal.κ "neg_log2e" .f32 0xBFB8AA3B#32 ((-((Real.log 2)⁻¹) : ℝ) : EReal) rfl,
  algMerge,
  trivial,
  algOproj,
  IdealRules.named_const.statement Cert.FfnUpIdeal.κ "neg_log2e" .f32 0xBFB8AA3B#32 ((-((Real.log 2)⁻¹) : ℝ) : EReal) rfl,
  algFfnUp,
  IdealRules.named_const.statement Cert.PleIdeal.κ "neg_log2e" .f32 0xBFB8AA3B#32 ((-((Real.log 2)⁻¹) : ℝ) : EReal) rfl,
  algPle,
  IdealRules.named_const.statement Cert.AttnIdeal.κ "mask" .f32 0xF149F2CA#32 (⊥ : EReal) rfl,
  trivial,
  algFfnDown,
  trivial,
  algPrep⟩

end Cert.Proof

end
